-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x8x128 : S_.BroadcastsInDim S1x2048x8x128 (![] : Fin 0 → Fin S1x2048x8x128.rank)

variable [Facts]

def fn {F : FTy → Type} [FloatOps F] (main_arg0 : FVec F S1x2048x1024 .f32) (main_arg1 : FVec F S1024x8192 .f32) (main_arg2 : FVec F S1x2048x8x128 .f32) (main_arg3 : FVec F S1x2048x8x128 .f32) (main_arg4 : FVec F S8192x1024 .f32) : IVec S1x2048x1024 1 × IVec S1024x8192 1 × IVec S1x2048x8x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x64x128 : S_.BroadcastsInDim S1x2048x64x128 (![] : Fin 0 → Fin S1x2048x64x128.rank)

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S1x2048x1024 1 × IVec S1024x8192 1 × IVec S1x2048x64x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x2048x64x128 .f32 := Host.absf main_arg2
  let main_cst_1 : FVec F S_ .f32 := constant S_ .f32 0x7F800000#32
  let main_v7 : FVec F S1x2048x64x128 .f32 := broadcastInDim S1x2048x64x128 ![] bcast_S_S1x2048x64x128 main_cst_1
  let main_v8 : IVec S1x2048x64x128 1 := cmpf .olt main_v6 main_v7
  (main_v2, main_v5, main_v8)
-- ==== Kernel.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S2048x1024 : Shape := ⟨2, ![2048, 1024]⟩
abbrev S1024x1024 : Shape := ⟨2, ![1024, 1024]⟩
abbrev S1792x1024 : Shape := ⟨2, ![1792, 1024]⟩
abbrev S2 : Shape := ⟨1, ![2]⟩
abbrev S6 : Shape := ⟨1, ![6]⟩
abbrev S1 : Shape := ⟨1, ![1]⟩
abbrev S_ : Shape := ⟨0, ![]⟩
abbrev S512x1024 : Shape := ⟨2, ![512, 1024]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩
abbrev S256x1024 : Shape := ⟨2, ![256, 1024]⟩

abbrev nBuf : Space → Nat
  | .hbm => 10
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x8x128, .f32⟩
  | .hbm, ⟨3, _⟩ => ⟨S1x2048x8x128, .f32⟩
  | .hbm, ⟨4, _⟩ => ⟨S8192x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1792x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v34 : BitVec 32 := Scalar.muli v2 c1024_i32
  ![0, v34.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_18 : BitVec 32 := 1024#32
  let v38 : BitVec 32 := Scalar.muli v2 c1024_i32_18
  let c0_i32_20 : BitVec 32 := 0#32
  ![v38.toNat, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_12 : BitVec 32 := 4#32
  let v27 : BitVec 32 := Scalar.muli v26 c4_i32_12
  let c4_i32 : BitVec 32 := 4#32
  let v3 : BitVec 32 := Scalar.remsi v2 c4_i32
  let c1_i32_13 : BitVec 32 := 1#32
  let v28 : BitVec 32 := Scalar.xori v3 c1_i32_13
  let v29 : BitVec 32 := Scalar.addi v27 v28
  let c1_i32_22 : BitVec 32 := 1#32
  let v43 : BitVec 32 := Scalar.muli v29 c1_i32_22
  let v44 : BitVec 32 := Scalar.addi c0_i32_23 v43
  v44.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_14 : BitVec 32 := 4#32
  let v30 : BitVec 32 := Scalar.muli v26 c4_i32_14
  let c3_i32 : BitVec 32 := 3#32
  let c4_i32 : BitVec 32 := 4#32
  let v3 : BitVec 32 := Scalar.remsi v2 c4_i32
  let v31 : BitVec 32 := Scalar.subi c3_i32 v3
  let v32 : BitVec 32 := Scalar.addi v30 v31
  let c1_i32_25 : BitVec 32 := 1#32
  let v45 : BitVec 32 := Scalar.muli v32 c1_i32_25
  let v46 : BitVec 32 := Scalar.addi c0_i32_26 v45
  v46.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v33 : BitVec 32 := Scalar.xori v2 c4_i32_15
  let c1_i32_28 : BitVec 32 := 1#32
  let v47 : BitVec 32 := Scalar.muli v33 c1_i32_28
  let v48 : BitVec 32 := Scalar.addi c0_i32_29 v47
  v48.toNat
def k0_off3 (d0 : Dev nD) : Fin 2 → Nat :=
  let c1_i32_494 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v978 : BitVec 32 := Scalar.subi c1_i32_494 v7
  let c1024_i32_495 : BitVec 32 := 1024#32
  let v979 : BitVec 32 := Scalar.muli v978 c1024_i32_495
  let c0_i32_514 : BitVec 32 := 0#32
  ![v979.toNat, 0]
def k0_dev4 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_12 : BitVec 32 := 4#32
  let v27 : BitVec 32 := Scalar.muli v26 c4_i32_12
  let c4_i32 : BitVec 32 := 4#32
  let v3 : BitVec 32 := Scalar.remsi v2 c4_i32
  let c1_i32_13 : BitVec 32 := 1#32
  let v28 : BitVec 32 := Scalar.xori v3 c1_i32_13
  let v29 : BitVec 32 := Scalar.addi v27 v28
  let c1_i32_510 : BitVec 32 := 1#32
  let v998 : BitVec 32 := Scalar.muli v29 c1_i32_510
  let v999 : BitVec 32 := Scalar.addi c0_i32_511 v998
  v999.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_493 : BitVec 32 := 1024#32
  let v977 : BitVec 32 := Scalar.muli v7 c1024_i32_493
  let v1016 : Index := Scalar.indexCast v977
  let c0_528 : Index := 0#32
  ![v1016.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_498 : BitVec 32 := 1024#32
  let v983 : BitVec 32 := Scalar.muli v7 c1024_i32_498
  let c1_i32_499 : BitVec 32 := 1#32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v984 : BitVec 32 := Scalar.subi c1_i32_499 v9
  let c512_i32_500 : BitVec 32 := 512#32
  let v985 : BitVec 32 := Scalar.muli v984 c512_i32_500
  let v986 : BitVec 32 := Scalar.addi v983 v985
  let c0_i32_538 : BitVec 32 := 0#32
  ![v986.toNat, 0]
def k0_dev5 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_14 : BitVec 32 := 4#32
  let v30 : BitVec 32 := Scalar.muli v26 c4_i32_14
  let c3_i32 : BitVec 32 := 3#32
  let c4_i32 : BitVec 32 := 4#32
  let v3 : BitVec 32 := Scalar.remsi v2 c4_i32
  let v31 : BitVec 32 := Scalar.subi c3_i32 v3
  let v32 : BitVec 32 := Scalar.addi v30 v31
  let c1_i32_534 : BitVec 32 := 1#32
  let v1024 : BitVec 32 := Scalar.muli v32 c1_i32_534
  let v1025 : BitVec 32 := Scalar.addi c0_i32_535 v1024
  v1025.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_496 : BitVec 32 := 1024#32
  let v980 : BitVec 32 := Scalar.muli v7 c1024_i32_496
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_497 : BitVec 32 := 512#32
  let v981 : BitVec 32 := Scalar.muli v9 c512_i32_497
  let v982 : BitVec 32 := Scalar.addi v980 v981
  let v1042 : Index := Scalar.indexCast v982
  let c0_552 : Index := 0#32
  ![v1042.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_504 : BitVec 32 := 1024#32
  let v992 : BitVec 32 := Scalar.muli v7 c1024_i32_504
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_505 : BitVec 32 := 512#32
  let v993 : BitVec 32 := Scalar.muli v9 c512_i32_505
  let v994 : BitVec 32 := Scalar.addi v992 v993
  let c1_i32_506 : BitVec 32 := 1#32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let v995 : BitVec 32 := Scalar.subi c1_i32_506 v26
  let c256_i32_507 : BitVec 32 := 256#32
  let v996 : BitVec 32 := Scalar.muli v995 c256_i32_507
  let v997 : BitVec 32 := Scalar.addi v994 v996
  let c0_i32_562 : BitVec 32 := 0#32
  ![v997.toNat, 0]
def k0_dev6 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v33 : BitVec 32 := Scalar.xori v2 c4_i32_15
  let c1_i32_558 : BitVec 32 := 1#32
  let v1050 : BitVec 32 := Scalar.muli v33 c1_i32_558
  let v1051 : BitVec 32 := Scalar.addi c0_i32_559 v1050
  v1051.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_501 : BitVec 32 := 1024#32
  let v987 : BitVec 32 := Scalar.muli v7 c1024_i32_501
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_502 : BitVec 32 := 512#32
  let v988 : BitVec 32 := Scalar.muli v9 c512_i32_502
  let v989 : BitVec 32 := Scalar.addi v987 v988
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c256_i32_503 : BitVec 32 := 256#32
  let v990 : BitVec 32 := Scalar.muli v26 c256_i32_503
  let v991 : BitVec 32 := Scalar.addi v989 v990
  let v1068 : Index := Scalar.indexCast v991
  let c0_576 : Index := 0#32
  ![v1068.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_580 : BitVec 32 := 1024#32
  let v1076 : BitVec 32 := Scalar.muli v7 c1024_i32_580
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_581 : BitVec 32 := 512#32
  let v1077 : BitVec 32 := Scalar.muli v9 c512_i32_581
  let v1078 : BitVec 32 := Scalar.addi v1076 v1077
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c256_i32_582 : BitVec 32 := 256#32
  let v1079 : BitVec 32 := Scalar.muli v26 c256_i32_582
  let v1080 : BitVec 32 := Scalar.addi v1078 v1079
  let c0_i32_590 : BitVec 32 := 0#32
  ![v1080.toNat, 0]
def k0_dev7 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v33 : BitVec 32 := Scalar.xori v2 c4_i32_15
  let c1_i32_588 : BitVec 32 := 1#32
  let v1085 : BitVec 32 := Scalar.muli v33 c1_i32_588
  let v1086 : BitVec 32 := Scalar.addi c0_i32_589 v1085
  v1086.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_583 : BitVec 32 := 1024#32
  let v1081 : BitVec 32 := Scalar.muli v7 c1024_i32_583
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_584 : BitVec 32 := 512#32
  let v1082 : BitVec 32 := Scalar.muli v9 c512_i32_584
  let v1083 : BitVec 32 := Scalar.addi v1081 v1082
  let c0_i32_607 : BitVec 32 := 0#32
  ![v1083.toNat, 0]
def k0_dev8 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_14 : BitVec 32 := 4#32
  let v30 : BitVec 32 := Scalar.muli v26 c4_i32_14
  let c3_i32 : BitVec 32 := 3#32
  let c4_i32 : BitVec 32 := 4#32
  let v3 : BitVec 32 := Scalar.remsi v2 c4_i32
  let v31 : BitVec 32 := Scalar.subi c3_i32 v3
  let v32 : BitVec 32 := Scalar.addi v30 v31
  let c1_i32_605 : BitVec 32 := 1#32
  let v1103 : BitVec 32 := Scalar.muli v32 c1_i32_605
  let v1104 : BitVec 32 := Scalar.addi c0_i32_606 v1103
  v1104.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_585 : BitVec 32 := 1024#32
  let v1084 : BitVec 32 := Scalar.muli v7 c1024_i32_585
  let c0_i32_623 : BitVec 32 := 0#32
  ![v1084.toNat, 0]
def k0_dev9 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v11 : BitVec 1 := Scalar.cmpi .sgt v2 c0_i32_6
  let v12 : BitVec 32 := Scalar.extui v11
  let c0_i32_7 : BitVec 32 := 0#32
  let v13 : BitVec 1 := Scalar.cmpi .slt v2 c0_i32_7
  let v14 : BitVec 32 := Scalar.extui v13
  let v15 : BitVec 32 := Scalar.subi v12 v14
  let c4_i32_5 : BitVec 32 := 4#32
  let c0_i32_8 : BitVec 32 := 0#32
  let v16 : BitVec 1 := Scalar.cmpi .sgt c4_i32_5 c0_i32_8
  let v17 : BitVec 32 := Scalar.extui v16
  let c0_i32_9 : BitVec 32 := 0#32
  let v18 : BitVec 1 := Scalar.cmpi .slt c4_i32_5 c0_i32_9
  let v19 : BitVec 32 := Scalar.extui v18
  let v20 : BitVec 32 := Scalar.subi v17 v19
  let v21 : BitVec 1 := Scalar.cmpi .ne v15 v20
  let v22 : BitVec 32 := Scalar.remsi v2 c4_i32_5
  let c0_i32_10 : BitVec 32 := 0#32
  let v23 : BitVec 1 := Scalar.cmpi .ne v22 c0_i32_10
  let v24 : BitVec 1 := Scalar.andi v21 v23
  let v10 : BitVec 32 := Scalar.divsi v2 c4_i32_5
  let c1_i32_11 : BitVec 32 := 1#32
  let v25 : BitVec 32 := Scalar.subi v10 c1_i32_11
  let v26 : BitVec 32 := Scalar.select v24 v25 v10
  let c4_i32_12 : BitVec 32 := 4#32
  let v27 : BitVec 32 := Scalar.muli v26 c4_i32_12
  let c4_i32 : BitVec 32 := 4#32
  let v3 : BitVec 32 := Scalar.remsi v2 c4_i32
  let c1_i32_13 : BitVec 32 := 1#32
  let v28 : BitVec 32 := Scalar.xori v3 c1_i32_13
  let v29 : BitVec 32 := Scalar.addi v27 v28
  let c1_i32_621 : BitVec 32 := 1#32
  let v1121 : BitVec 32 := Scalar.muli v29 c1_i32_621
  let v1122 : BitVec 32 := Scalar.addi c0_i32_622 v1121
  v1122.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x64x2048x2048, .f32⟩
  | .hbm, ⟨19, _⟩ => ⟨S_, .f32⟩
  | .hbm, ⟨20, _⟩ => ⟨S1x64x2048x2048, .f32⟩
  | .hbm, ⟨21, _⟩ => ⟨S1x64x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S1x64x2048x2048, .i1⟩
  | .hbm, ⟨26, _⟩ => ⟨S1x64x2048x2048, .f32⟩
  | .hbm, ⟨27, _⟩ => ⟨S1x64x2048x2048, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x2048, .f32⟩
  | .hbm, ⟨32, _⟩ => ⟨S1x64x2048x2048, .f32⟩
  | .hbm, ⟨33, _⟩ => ⟨S1x64x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x2048, .f32⟩
  | .hbm, ⟨46, _⟩ => ⟨S1x64x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x2048, .i1⟩
  | .hbm, ⟨51, _⟩ => ⟨S1x64x2048x2048, .f32⟩
  | .hbm, ⟨52, _⟩ => ⟨S1x64x2048x2048, .f32⟩
  | .hbm, ⟨53, _⟩ => ⟨S1x64x128x2048, .f32⟩
  | .hbm, ⟨54, _⟩ => ⟨S1x2048x64x128, .f32⟩
  | .hbm, ⟨55, _⟩ => ⟨S1x2048x8192, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Mesh.lean ====
/- The mesh of eight devices, as the exchange sees it: the three partners of a device, the rows of the exchange buffer
   that a device sends and keeps at each phase, and the closed forms of the printed offsets. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Tactic

@[expose] public section

noncomputable section

namespace Cert.Attn
open Cert.KernelIdeal Cert.KernelIdeal.Gen
open Idealize.ShloMosaic
open Idealize.ShloMosaic.TcCoe
open Idealize.SL Idealize.SL.Sem

/-! ## Partners -/

/-- The partner of device `c` along axis `a` (0, 1, 2: the ring of four in two axes, then the two rings). -/
def prt (a : Fin 3) (c : Dev nD) : Dev nD :=
  match a with
  | 0 => ⟨k0_dev1 c, k0_dev1_lt c⟩
  | 1 => ⟨k0_dev2 c, k0_dev2_lt c⟩
  | 2 => ⟨k0_dev3 c, k0_dev3_lt c⟩

theorem prt_prt : ∀ (a : Fin 3) (c : Dev nD), prt a (prt a c) = c := by decide +kernel

/-- A partner's partner is the device itself, so each axis permutes the devices. -/
def prtEquiv (a : Fin 3) : Dev nD ≃ Dev nD := ⟨prt a, prt a, prt_prt a, prt_prt a⟩

/-- The axis of each of the six phases: three of reduce-scatter, then the same three backwards. -/
def axis (k : Fin 6) : Fin 3 :=
  match k with
  | 0 => 0 | 1 => 1 | 2 => 2 | 3 => 2 | 4 => 1 | 5 => 0

theorem dev4_eq : ∀ c : Dev nD, (⟨k0_dev4 c, k0_dev4_lt c⟩ : Dev nD) = prt 0 c := by decide +kernel
theorem dev5_eq : ∀ c : Dev nD, (⟨k0_dev5 c, k0_dev5_lt c⟩ : Dev nD) = prt 1 c := by decide +kernel
theorem dev6_eq : ∀ c : Dev nD, (⟨k0_dev6 c, k0_dev6_lt c⟩ : Dev nD) = prt 2 c := by decide +kernel
theorem dev7_eq : ∀ c : Dev nD, (⟨k0_dev7 c, k0_dev7_lt c⟩ : Dev nD) = prt 2 c := by decide +kernel
theorem dev8_eq : ∀ c : Dev nD, (⟨k0_dev8 c, k0_dev8_lt c⟩ : Dev nD) = prt 1 c := by decide +kernel
theorem dev9_eq : ∀ c : Dev nD, (⟨k0_dev9 c, k0_dev9_lt c⟩ : Dev nD) = prt 0 c := by decide +kernel

/-! ## A device's place, and the offsets by it -/

/-- The three bits of a device's place. -/
def bx (c : Dev nD) : ℕ := if c.val % 4 = 1 ∨ c.val % 4 = 2 then 1 else 0
def byy (c : Dev nD) : ℕ := if c.val % 4 ≥ 2 then 1 else 0
def bz (c : Dev nD) : ℕ := c.val / 4

theorem bx_le : ∀ c : Dev nD, bx c ≤ 1 := by decide +kernel
theorem by_le : ∀ c : Dev nD, byy c ≤ 1 := by decide +kernel
theorem bz_le : ∀ c : Dev nD, bz c ≤ 1 := by decide +kernel

theorem off3_row : ∀ c : Dev nD, k0_off3 c 0 = 1024 * (1 - bx c) := by decide +kernel
theorem off4_row : ∀ c : Dev nD, k0_off4 c 0 = 1024 * bx c := by decide +kernel
theorem off5_row : ∀ c : Dev nD, k0_off5 c 0 = 1024 * bx c + 512 * (1 - byy c) := by decide +kernel
theorem off6_row : ∀ c : Dev nD, k0_off6 c 0 = 1024 * bx c + 512 * byy c := by decide +kernel
theorem off7_row : ∀ c : Dev nD, k0_off7 c 0 = 1024 * bx c + 512 * byy c + 256 * (1 - bz c) := by decide +kernel
theorem off8_row : ∀ c : Dev nD, k0_off8 c 0 = 1024 * bx c + 512 * byy c + 256 * bz c := by decide +kernel
theorem off3_col : ∀ c : Dev nD, k0_off3 c 1 = 0 := by decide +kernel
theorem off4_col : ∀ c : Dev nD, k0_off4 c 1 = 0 := by decide +kernel
theorem off5_col : ∀ c : Dev nD, k0_off5 c 1 = 0 := by decide +kernel
theorem off6_col : ∀ c : Dev nD, k0_off6 c 1 = 0 := by decide +kernel
theorem off7_col : ∀ c : Dev nD, k0_off7 c 1 = 0 := by decide +kernel
theorem off8_col : ∀ c : Dev nD, k0_off8 c 1 = 0 := by decide +kernel

-- what a device sends at a phase is what its partner keeps
theorem off3_prt : ∀ c : Dev nD, k0_off3 (prt 0 c) = k0_off4 c := by decide +kernel
theorem off5_prt : ∀ c : Dev nD, k0_off5 (prt 1 c) = k0_off6 c := by decide +kernel
theorem off7_prt : ∀ c : Dev nD, k0_off7 (prt 2 c) = k0_off8 c := by decide +kernel
-- the all-gather's blocks are those the reduce-scatter kept
theorem off9_eq : ∀ c : Dev nD, k0_off9 c = k0_off8 c := by decide +kernel
theorem off10_eq : ∀ c : Dev nD, k0_off10 c = k0_off6 c := by decide +kernel
theorem off11_eq : ∀ c : Dev nD, k0_off11 c = k0_off4 c := by decide +kernel

/-! ## The blocks of the exchange buffer -/

/-- The exchange buffer, and the landing buffer of the reduce-scatter. -/
abbrev cM : Memref sig .tc .vmem S2048x1024 .bf16 := Memref.whole cc0_scratch4
abbrev lM : Memref sig .tc .vmem S1792x1024 .bf16 := Memref.whole cc0_scratch5

/-- Rows of the exchange buffer from an offset: 1024, 512 or 256 of them. -/
def blk0 (o : Fin 2 → ℕ) (h : ∀ a, o a + S1024x1024.size a ≤ S2048x1024.size a) : Memref sig .tc .vmem S1024x1024 .bf16 :=
  cM.slice (Rect.unit (s := S2048x1024) o S1024x1024.size h) (fun _ => rfl)
def blk1 (o : Fin 2 → ℕ) (h : ∀ a, o a + S512x1024.size a ≤ S2048x1024.size a) : Memref sig .tc .vmem S512x1024 .bf16 :=
  cM.slice (Rect.unit (s := S2048x1024) o S512x1024.size h) (fun _ => rfl)
def blk2 (o : Fin 2 → ℕ) (h : ∀ a, o a + S256x1024.size a ≤ S2048x1024.size a) : Memref sig .tc .vmem S256x1024 .bf16 :=
  cM.slice (Rect.unit (s := S2048x1024) o S256x1024.size h) (fun _ => rfl)

/-- What device `c` sends (`s`) and keeps (`k`) at each reduce-scatter phase. -/
abbrev s0 (c : Dev nD) := blk0 (k0_off3 c) (k0_off3_inb c)
abbrev k0 (c : Dev nD) := blk0 (k0_off4 c) (k0_off4_inb c)
abbrev s1 (c : Dev nD) := blk1 (k0_off5 c) (k0_off5_inb c)
abbrev k1 (c : Dev nD) := blk1 (k0_off6 c) (k0_off6_inb c)
abbrev s2 (c : Dev nD) := blk2 (k0_off7 c) (k0_off7_inb c)
abbrev k2 (c : Dev nD) := blk2 (k0_off8 c) (k0_off8_inb c)

/-- The three slots of the landing buffer. -/
abbrev slot0 : Memref sig .tc .vmem S1024x1024 .bf16 := lM.slice (Rect.unit (s := S1792x1024) ![0, 0] S1024x1024.size inb_S1792x1024_S1024x1024_0_0) (fun _ => rfl)
abbrev slot1 : Memref sig .tc .vmem S512x1024 .bf16 := lM.slice (Rect.unit (s := S1792x1024) ![1024, 0] S512x1024.size inb_S1792x1024_S512x1024_1024_0) (fun _ => rfl)
abbrev slot2 : Memref sig .tc .vmem S256x1024 .bf16 := lM.slice (Rect.unit (s := S1792x1024) ![1536, 0] S256x1024.size inb_S1792x1024_S256x1024_1536_0) (fun _ => rfl)

theorem blk0_congr {o o' : Fin 2 → ℕ} (e : o = o') (h) (h') : blk0 o h = blk0 o' h' := by subst e; rfl
theorem blk1_congr {o o' : Fin 2 → ℕ} (e : o = o') (h) (h') : blk1 o h = blk1 o' h' := by subst e; rfl
theorem blk2_congr {o o' : Fin 2 → ℕ} (e : o = o') (h) (h') : blk2 o h = blk2 o' h' := by subst e; rfl

theorem s0_prt (c : Dev nD) : s0 (prt 0 c) = k0 c := blk0_congr (off3_prt c) _ _
theorem s1_prt (c : Dev nD) : s1 (prt 1 c) = k1 c := blk1_congr (off5_prt c) _ _
theorem s2_prt (c : Dev nD) : s2 (prt 2 c) = k2 c := blk2_congr (off7_prt c) _ _
theorem k0_prt (c : Dev nD) : k0 (prt 0 c) = s0 c := by rw [← s0_prt, prt_prt]
theorem k1_prt (c : Dev nD) : k1 (prt 1 c) = s1 c := by rw [← s1_prt, prt_prt]
theorem k2_prt (c : Dev nD) : k2 (prt 2 c) = s2 c := by rw [← s2_prt, prt_prt]

/-- Rows `a … a+n` of the exchange buffer. -/
def rows (a n : ℕ) : Finset S2048x1024.Idx := Finset.univ.filter (fun i => a ≤ (i 0).val ∧ (i 0).val < a + n)
theorem mem_rows {a n : ℕ} {i : S2048x1024.Idx} : i ∈ rows a n ↔ a ≤ (i 0).val ∧ (i 0).val < a + n := by simp [rows]

/-- A block's cells are its rows. -/
theorem set_rows (z : Fin 2 → ℕ) (o : Fin 2 → ℕ) (h : ∀ a, o a + z a ≤ S2048x1024.size a) (h1 : o 1 = 0) (hz : z 1 = 1024) :
    (Rect.unit (s := S2048x1024) o z h).set = rows (o 0) (z 0) := by
  ext i
  rw [Rect.mem_set_unit, mem_rows]
  have hi : (i 1).val < 1024 := (i 1).isLt
  constructor
  · intro H; exact H 0
  · intro H a; fin_cases a
    · exact H
    · rw [show o (⟨1, _⟩ : Fin 2) = o 1 from rfl, show z (⟨1, _⟩ : Fin 2) = z 1 from rfl, h1, hz]; exact ⟨Nat.zero_le _, by simpa using hi⟩
theorem set_blk0 {o : Fin 2 → ℕ} (h) (h1 : o 1 = 0) : (blk0 o h).view.set = rows (o 0) 1024 :=
  (View.set_slice_whole _ _).trans (set_rows _ o h h1 rfl)
theorem set_blk1 {o : Fin 2 → ℕ} (h) (h1 : o 1 = 0) : (blk1 o h).view.set = rows (o 0) 512 :=
  (View.set_slice_whole _ _).trans (set_rows _ o h h1 rfl)
theorem set_blk2 {o : Fin 2 → ℕ} (h) (h1 : o 1 = 0) : (blk2 o h).view.set = rows (o 0) 256 :=
  (View.set_slice_whole _ _).trans (set_rows _ o h h1 rfl)

/-! ## How the blocks tile the buffer -/

/-- The rows a device sends and keeps, phase by phase. -/
def S0 (c : Dev nD) := rows (1024 * (1 - bx c)) 1024
def K0 (c : Dev nD) := rows (1024 * bx c) 1024
def S1 (c : Dev nD) := rows (1024 * bx c + 512 * (1 - byy c)) 512
def K1 (c : Dev nD) := rows (1024 * bx c + 512 * byy c) 512
def S2 (c : Dev nD) := rows (1024 * bx c + 512 * byy c + 256 * (1 - bz c)) 256
def K2 (c : Dev nD) := rows (1024 * bx c + 512 * byy c + 256 * bz c) 256

theorem s0_set (c : Dev nD) : (s0 c).view.set = S0 c := by rw [S0, ← off3_row]; exact set_blk0 _ (off3_col c)
theorem k0_set (c : Dev nD) : (k0 c).view.set = K0 c := by rw [K0, ← off4_row]; exact set_blk0 _ (off4_col c)
theorem s1_set (c : Dev nD) : (s1 c).view.set = S1 c := by rw [S1, ← off5_row]; exact set_blk1 _ (off5_col c)
theorem k1_set (c : Dev nD) : (k1 c).view.set = K1 c := by rw [K1, ← off6_row]; exact set_blk1 _ (off6_col c)
theorem s2_set (c : Dev nD) : (s2 c).view.set = S2 c := by rw [S2, ← off7_row]; exact set_blk2 _ (off7_col c)
theorem k2_set (c : Dev nD) : (k2 c).view.set = K2 c := by rw [K2, ← off8_row]; exact set_blk2 _ (off8_col c)

theorem split0 (c : Dev nD) : (Finset.univ : Finset S2048x1024.Idx) = S0 c ∪ K0 c := by
  ext i; simp only [S0, K0, Finset.mem_union, mem_rows]
  have := bx_le c; have hi : (i 0).val < 2048 := (i 0).isLt
  simp only [Finset.mem_univ, true_iff]; omega
theorem disj0 (c : Dev nD) : Disjoint (S0 c) (K0 c) := by
  rw [Finset.disjoint_left]; intro i; simp only [S0, K0, mem_rows]
  have := bx_le c; omega
theorem split1 (c : Dev nD) : K0 c = S1 c ∪ K1 c := by
  ext i; simp only [K0, S1, K1, Finset.mem_union, mem_rows]
  have := by_le c; omega
theorem disj1 (c : Dev nD) : Disjoint (S1 c) (K1 c) := by
  rw [Finset.disjoint_left]; intro i; simp only [S1, K1, mem_rows]
  have := by_le c; omega
theorem split2 (c : Dev nD) : K1 c = S2 c ∪ K2 c := by
  ext i; simp only [K1, S2, K2, Finset.mem_union, mem_rows]
  have := bz_le c; omega
theorem disj2 (c : Dev nD) : Disjoint (S2 c) (K2 c) := by
  rw [Finset.disjoint_left]; intro i; simp only [S2, K2, mem_rows]
  have := bz_le c; omega

theorem bx_prt : ∀ c : Dev nD, 1 - bx (prt 0 c) = bx c := by decide +kernel
theorem bx_prt1 : ∀ c : Dev nD, bx (prt 1 c) = bx c := by decide +kernel
theorem by_prt1 : ∀ c : Dev nD, 1 - byy (prt 1 c) = byy c := by decide +kernel
theorem bx_prt2 : ∀ c : Dev nD, bx (prt 2 c) = bx c := by decide +kernel
theorem by_prt2 : ∀ c : Dev nD, byy (prt 2 c) = byy c := by decide +kernel
theorem bz_prt2 : ∀ c : Dev nD, 1 - bz (prt 2 c) = bz c := by decide +kernel
theorem S0_prt (c : Dev nD) : S0 (prt 0 c) = K0 c := by rw [S0, K0, bx_prt]
theorem S1_prt (c : Dev nD) : S1 (prt 1 c) = K1 c := by rw [S1, K1, bx_prt1, by_prt1]
theorem S2_prt (c : Dev nD) : S2 (prt 2 c) = K2 c := by rw [S2, K2, bx_prt2, by_prt2, bz_prt2]
theorem K0_prt (c : Dev nD) : K0 (prt 0 c) = S0 c := by rw [← S0_prt, prt_prt]
theorem K1_prt (c : Dev nD) : K1 (prt 1 c) = S1 c := by rw [← S1_prt, prt_prt]
theorem K2_prt (c : Dev nD) : K2 (prt 2 c) = S2 c := by rw [← S2_prt, prt_prt]

/-- Rows `a … a+n` of the landing buffer. -/
def lrows (a n : ℕ) : Finset S1792x1024.Idx := Finset.univ.filter (fun i => a ≤ (i 0).val ∧ (i 0).val < a + n)
theorem mem_lrows {a n : ℕ} {i : S1792x1024.Idx} : i ∈ lrows a n ↔ a ≤ (i 0).val ∧ (i 0).val < a + n := by simp [lrows]
theorem set_lrows (z : Fin 2 → ℕ) (o : Fin 2 → ℕ) (h : ∀ x, o x + z x ≤ S1792x1024.size x) (a n : ℕ) (h0 : o 0 = a) (h1 : o 1 = 0) (hn : z 0 = n) (hz : z 1 = 1024) :
    (Rect.unit (s := S1792x1024) o z h).set = lrows a n := by
  subst h0 hn
  ext i
  rw [Rect.mem_set_unit, mem_lrows]
  have hi : (i 1).val < 1024 := (i 1).isLt
  constructor
  · intro H; exact H 0
  · intro H x; fin_cases x
    · exact H
    · rw [show o (⟨1, _⟩ : Fin 2) = o 1 from rfl, show z (⟨1, _⟩ : Fin 2) = z 1 from rfl, h1, hz]; exact ⟨Nat.zero_le _, by simpa using hi⟩
theorem slot0_set : slot0.view.set = lrows 0 1024 := (View.set_slice_whole _ _).trans (set_lrows _ _ _ 0 1024 rfl rfl rfl rfl)
theorem slot1_set : slot1.view.set = lrows 1024 512 := (View.set_slice_whole _ _).trans (set_lrows _ _ _ 1024 512 rfl rfl rfl rfl)
theorem slot2_set : slot2.view.set = lrows 1536 256 := (View.set_slice_whole _ _).trans (set_lrows _ _ _ 1536 256 rfl rfl rfl rfl)
/-- The landing buffer is its three slots. -/
theorem slots_split : (Finset.univ : Finset S1792x1024.Idx) = lrows 0 1024 ∪ (lrows 1024 512 ∪ lrows 1536 256) := by
  ext i; simp only [Finset.mem_union, mem_lrows]
  have hi : (i 0).val < 1792 := (i 0).isLt
  simp only [Finset.mem_univ, true_iff]; omega
theorem slots_disj0 : Disjoint (lrows 0 1024) (lrows 1024 512 ∪ lrows 1536 256) := by
  rw [Finset.disjoint_left]; intro i; simp only [Finset.mem_union, mem_lrows]; omega
theorem slots_disj1 : Disjoint (lrows 1024 512) (lrows 1536 256) := by
  rw [Finset.disjoint_left]; intro i; simp only [mem_lrows]; omega

end Cert.Attn
end
end
-- ==== Proof.Schedule.lean ====
/- The exchange's protocol: what the exchange buffer of each device holds phase by phase (for any starting contents `P`
   of all the devices), the cells, what each credit hands over, the levels, and what each device owes. -/
module

public import proofs.«01_k».proof.Proof.Mesh

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's rounds: the duties of a cell are named by the three axes. -/
abbrev UB : Type := URounds (GSem nD τ sig) (Fin 3)
/-- Beside the launch's own rounds and the exchange's, the counters of the copies a device makes within itself. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## Contents of the exchange buffer -/

/-- The contents of an exchange buffer. -/
abbrev Arr (F : FTy → Type) : Type := FVec F S2048x1024 .bf16

variable (P : Dev nD → Arr F)

/-- After the sums along one axis, two, three: each device its own and its partner's. -/
def A1 (c : Dev nD) : Arr F := addf (P c) (P (prt 0 c))
def A2 (c : Dev nD) : Arr F := addf (A1 P c) (A1 P (prt 1 c))
def A3 (c : Dev nD) : Arr F := addf (A2 P c) (A2 P (prt 2 c))
/-- What the all-gather leaves: the rows received are the partner's, the others the device's own. -/
def B3 (c : Dev nD) : Arr F := fun i => if i ∈ S2 c then A3 P (prt 2 c) i else A3 P c i
def B4 (c : Dev nD) : Arr F := fun i => if i ∈ S1 c then B3 P (prt 1 c) i else B3 P c i
def B5 (c : Dev nD) : Arr F := fun i => if i ∈ S0 c then B4 P (prt 0 c) i else B4 P c i

/-! ## Cells -/

abbrev barS : Sem sig := sig.barrier 0 rfl
def sS (k : Fin 6) : DmaSem sig := ⟨6 + k.val, by have := k.isLt; show 6 + k.val < 18; omega⟩
def rS (k : Fin 6) : DmaSem sig := ⟨12 + k.val, by have := k.isLt; show 12 + k.val < 18; omega⟩

abbrev bcell (c : Dev nD) : GSem nD τ sig := ((c : Thread nD τ), .reg barS)
abbrev scell (k : Fin 6) (c : Dev nD) : GSem nD τ sig := ((c : Thread nD τ), .dma (sS k))
abbrev rcell (k : Fin 6) (c : Dev nD) : GSem nD τ sig := ((c : Thread nD τ), .dma (rS k))

/-- The credit of a block of 1024, 512, 256 rows. -/
def N0 : ℕ := slot0.view.dmaCredit
def N1 : ℕ := slot1.view.dmaCredit
def N2 : ℕ := slot2.view.dmaCredit
theorem N0_pos : 0 < N0 := View.dmaCredit_pos _ (by decide)
theorem N1_pos : 0 < N1 := View.dmaCredit_pos _ (by decide)
theorem N2_pos : 0 < N2 := View.dmaCredit_pos _ (by decide)
/-- The credit of phase `k`. -/
def amt (k : Fin 6) : ℕ := match k with | 0 => N0 | 1 => N1 | 2 => N2 | 3 => N2 | 4 => N1 | 5 => N0

/-! ## Points-tos -/

/-- Rows `I` of device `c`'s exchange buffer, and of its landing buffer. -/
abbrev cPts (c : Dev nD) (I : Finset S2048x1024.Idx) (f : Arr F) : sProp 𝕄 := cM.view.loc (c : Thread nD τ) ↦[I]{fullShare} f
abbrev lPts (c : Dev nD) (I : Finset S1792x1024.Idx) (f : FVec F S1792x1024 .bf16) : sProp 𝕄 := lM.view.loc (c : Thread nD τ) ↦[I]{fullShare} f

/-- A landing slot once the partner's copy has landed. -/
def land0 (f : FVec F S1792x1024 .bf16) (p : Dev nD) (A : Arr F) : FVec F S1792x1024 .bf16 :=
  slot0.view.write (Elt F) f ((s0 p).view.read (Elt F) A) Finset.univ
def land1 (f : FVec F S1792x1024 .bf16) (p : Dev nD) (A : Arr F) : FVec F S1792x1024 .bf16 :=
  slot1.view.write (Elt F) f ((s1 p).view.read (Elt F) A) Finset.univ
def land2 (f : FVec F S1792x1024 .bf16) (p : Dev nD) (A : Arr F) : FVec F S1792x1024 .bf16 :=
  slot2.view.write (Elt F) f ((s2 p).view.read (Elt F) A) Finset.univ

/-! ## The schedule -/

/-- Paid to device `c`'s barrier cell by its partner along an axis: the partner's landing slot, and that the partner's
    receive cells of that axis's two phases are open. -/
def barPay (c : Dev nD) (a : Fin 3) : sProp 𝕄 :=
  match a with
  | 0 => iprop((∃ f, lPts (prt 0 c) (lrows 0 1024) f) ∗ reached ER (rcell 0 (prt 0 c)) 0 ∗ reached ER (rcell 5 (prt 0 c)) 0)
  | 1 => iprop((∃ f, lPts (prt 1 c) (lrows 1024 512) f) ∗ reached ER (rcell 1 (prt 1 c)) 0 ∗ reached ER (rcell 4 (prt 1 c)) 0)
  | 2 => iprop((∃ f, lPts (prt 2 c) (lrows 1536 256) f) ∗ reached ER (rcell 2 (prt 2 c)) 0 ∗ reached ER (rcell 3 (prt 2 c)) 0)

/-- Paid to device `c`'s receive cell of a phase. Reduce-scatter: the landing slot at what the partner sent, and the
    rows of the PARTNER's exchange buffer it was sent from. All-gather: the device's own rows, at the partner's values. -/
def recvPay (c : Dev nD) (n : ℕ) : sProp 𝕄 :=
  match n with
  | 0 => iprop((∃ f, lPts c (lrows 0 1024) (land0 f (prt 0 c) (P (prt 0 c)))) ∗ cPts (prt 0 c) (K0 c) (P (prt 0 c)))
  | 1 => iprop((∃ f, lPts c (lrows 1024 512) (land1 f (prt 1 c) (A1 P (prt 1 c)))) ∗ cPts (prt 1 c) (K1 c) (A1 P (prt 1 c)))
  | 2 => iprop((∃ f, lPts c (lrows 1536 256) (land2 f (prt 2 c) (A2 P (prt 2 c)))) ∗ cPts (prt 2 c) (K2 c) (A2 P (prt 2 c)))
  | 3 => cPts c (S2 c) (A3 P (prt 2 c))
  | 4 => cPts c (S1 c) (B3 P (prt 1 c))
  | _ => cPts c (S0 c) (B4 P (prt 0 c))

/-- Paid to device `c`'s send cell of a phase: in the all-gather the rows sent, back. -/
def sendPay (c : Dev nD) (n : ℕ) : sProp 𝕄 :=
  match n with
  | 3 => cPts c (K2 c) (A3 P c)
  | 4 => cPts c (K1 c) (B3 P c)
  | 5 => cPts c (K0 c) (B4 P c)
  | _ => iprop(emp)

def payOf (g : GSem nD τ sig) (d : Fin 3) : sProp 𝕄 :=
  match g.2 with
  | .reg _ => barPay g.1.1 d
  | .dma s => if s.val < 12 then sendPay P g.1.1 (s.val - 6) else recvPay P g.1.1 (s.val - 12)

/-- A barrier cell has one duty per axis; a send or receive cell has one. -/
def dutiesOf (sm : SemLoc sig) : Finset (Fin 3) :=
  match sm with
  | .reg _ => Finset.univ
  | .dma s => if 6 ≤ s.val then {0} else ∅

def amountOf (sm : SemLoc sig) : ℕ :=
  match sm with
  | .reg _ => 1
  | .dma s => amt ⟨s.val % 6, Nat.mod_lt _ (by decide)⟩

theorem amt_pos (k : Fin 6) : 0 < amt k := by
  fin_cases k
  exacts [N0_pos, N1_pos, N2_pos, N2_pos, N1_pos, N0_pos]

def sched : Rounds.Schedule (GSem nD τ sig) (Fin 3) 𝕄 where
  duties g r := if r = 0 ∧ g.1.2 = .tc then dutiesOf g.2 else ∅
  unitless _ := False
  amount g _ _ := amountOf g.2
  payload g _ d := payOf P g d
  amount_pos g _ _ _ := by
    rcases g with ⟨t, sm⟩
    cases sm with
    | reg _ => exact Nat.one_pos
    | dma s => exact amt_pos _

instance barPay_storable (c : Dev nD) (a : Fin 3) : BI.Storable (upEmb : UEmb _ 𝕄) (barPay (F := F) c a) := by
  unfold barPay; split <;> infer_instance
instance recvPay_storable (c : Dev nD) (n : ℕ) : BI.Storable (upEmb : UEmb _ 𝕄) (recvPay P c n) := by
  unfold recvPay; split <;> infer_instance
instance sendPay_storable (c : Dev nD) (n : ℕ) : BI.Storable (upEmb : UEmb _ 𝕄) (sendPay P c n) := by
  unfold sendPay; split <;> infer_instance
instance payOf_storable (g : GSem nD τ sig) (d : Fin 3) : BI.Storable (upEmb : UEmb _ 𝕄) (payOf P g d) := by
  unfold payOf; split
  · infer_instance
  · split <;> infer_instance
instance sched_storable (g : GSem nD τ sig) (r : ℕ) (d : Fin 3) : BI.Storable (upEmb : UEmb _ 𝕄) ((sched P).payload g r d) :=
  payOf_storable P g d

section Facts
variable (c : Dev nD) (k : Fin 6)

theorem duties_bar : (sched P).duties (bcell c) 0 = Finset.univ := by dsimp only [sched]; rw [if_pos ⟨rfl, rfl⟩]; rfl
theorem duties_send : (sched P).duties (scell k c) 0 = {0} := by
  dsimp only [sched]; rw [if_pos ⟨rfl, rfl⟩]; exact if_pos (Nat.le_add_right _ _)
theorem duties_recv : (sched P).duties (rcell k c) 0 = {0} := by
  dsimp only [sched]; rw [if_pos ⟨rfl, rfl⟩]; exact if_pos (show 6 ≤ 12 + k.val by omega)
theorem duties_later (g : GSem nD τ sig) : ∀ r, 1 ≤ r → (sched P).duties g r = ∅ :=
  fun r hr => if_neg fun h => by omega

theorem amount_bar (d : Fin 3) : (sched P).amount (bcell c) 0 d = 1 := rfl
theorem amount_send (d : Fin 3) : (sched P).amount (scell k c) 0 d = amt k :=
  congrArg amt (Fin.ext (show (6 + k.val) % 6 = k.val by have := k.isLt; omega))
theorem amount_recv (d : Fin 3) : (sched P).amount (rcell k c) 0 d = amt k :=
  congrArg amt (Fin.ext (show (12 + k.val) % 6 = k.val by have := k.isLt; omega))

theorem payload_bar (d : Fin 3) : (sched P).payload (bcell c) 0 d = barPay c d := rfl
theorem payload_send (d : Fin 3) : (sched P).payload (scell k c) 0 d = sendPay P c k.val :=
  (if_pos (show 6 + k.val < 12 by have := k.isLt; omega)).trans
    (by rw [show (sS k).val - 6 = k.val from Nat.add_sub_cancel_left ..])
theorem payload_recv (d : Fin 3) : (sched P).payload (rcell k c) 0 d = recvPay P c k.val :=
  (if_neg (show ¬ 12 + k.val < 12 by omega)).trans
    (by rw [show (rS k).val - 12 = k.val from Nat.add_sub_cancel_left ..])

theorem expect_bar : (sched P).expect (bcell c) 0 = 3 := by
  unfold Schedule.expect Schedule.amountOf
  rw [duties_bar, Finset.sum_congr rfl fun d _ => amount_bar P c d]; rfl
theorem expect_send : (sched P).expect (scell k c) 0 = amt k := by
  unfold Schedule.expect Schedule.amountOf; rw [duties_send, Finset.sum_singleton, amount_send]
theorem expect_recv : (sched P).expect (rcell k c) 0 = amt k := by
  unfold Schedule.expect Schedule.amountOf; rw [duties_recv, Finset.sum_singleton, amount_recv]

theorem rest_bar : bigSep ((sched P).duties (bcell c) 0 \ ∅) (fun d => (sched P).payload (bcell c) 0 d)
    = iprop(barPay c 0 ∗ barPay c 1 ∗ barPay c 2) := by
  rw [Finset.sdiff_empty, duties_bar, bigSep_univ_eq_bigSepL [0, 1, 2] (by decide) (by decide)]
  rfl
theorem rest_send : bigSep ((sched P).duties (scell k c) 0 \ ∅) (fun d => (sched P).payload (scell k c) 0 d) = sendPay P c k.val := by
  rw [Finset.sdiff_empty, duties_send, bigSep_singleton, payload_send]
theorem rest_recv : bigSep ((sched P).duties (rcell k c) 0 \ ∅) (fun d => (sched P).payload (rcell k c) 0 d) = recvPay P c k.val := by
  rw [Finset.sdiff_empty, duties_recv, bigSep_singleton, payload_recv]

end Facts

/-! ## Levels, and what a device owes -/

def L (g : GSem nD τ sig) : Finset Unit := if g.1.2 = .tc then {()} else ∅
/-- Barrier cells at 1, the receive cell of phase `k` at `2 + k`, the rest at 0. -/
def lv (g : GSem nD τ sig) (_ : Unit) : ℕ :=
  match g.2 with
  | .reg _ => 1
  | .dma s => if 12 ≤ s.val then s.val - 10 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 6) (c : Dev nD) : lv (rcell k c) () = 2 + k.val :=
  (if_pos (show 12 ≤ 12 + k.val by omega)).trans (show 12 + k.val - 10 = 2 + k.val by omega)

/-- The phase that is `n` phases before the end. -/
def ph (n : ℕ) : Fin 6 := ⟨5 - n, by omega⟩
/-- What a device owes with `n` phases to go: the partners' receive credits of those. -/
def owe (c : Dev nD) : ℕ → CellTallies nD τ sig Unit
  | 0 => 0
  | n + 1 => owe c n + tallyAt (rcell (ph n) (prt (axis (ph n)) c)) () (amt (ph n))
/-- What a device owes at launch: all six, and a unit to each partner's barrier. -/
def O1 (c : Dev nD) : CellTallies nD τ sig Unit := owe c 6 + tallyAt (bcell (prt 2 c)) () 1
def O2 (c : Dev nD) : CellTallies nD τ sig Unit := O1 c + tallyAt (bcell (prt 1 c)) () 1
def O₀ (c : Dev nD) : CellTallies nD τ sig Unit := O2 c + tallyAt (bcell (prt 0 c)) () 1

theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem owe_pos {c : Dev nD} {g : GSem nD τ sig} {u : Unit} : ∀ n, n ≤ 6 → 0 < owe c n g u →
    ∃ k : Fin 6, 6 - n ≤ k.val ∧ g = rcell k (prt (axis k) c)
  | 0, _, h => absurd h (Nat.lt_irrefl 0)
  | n + 1, hn, h => by
    unfold owe at h
    rw [Pi.add_apply, Finsupp.add_apply] at h
    rcases Nat.add_pos_iff_pos_or_pos.mp h with h | h
    · obtain ⟨k, hk, e⟩ := owe_pos n (by omega) h
      exact ⟨k, by omega, e⟩
    · exact ⟨ph n, by show 6 - (n + 1) ≤ 5 - n; omega, tally_pos h⟩
theorem O₀_pos {c : Dev nD} {g : GSem nD τ sig} {u : Unit} (h : 0 < O₀ c g u) :
    (∃ k : Fin 6, g = rcell k (prt (axis k) c)) ∨ ∃ a : Fin 3, g = bcell (prt a c) := by
  unfold O₀ O2 O1 at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, -, e⟩ := owe_pos 6 (Nat.le_refl _) h
        exact .inl ⟨k, e⟩
      · exact .inr ⟨2, tally_pos h⟩
    · exact .inr ⟨1, tally_pos h⟩
  · exact .inr ⟨0, tally_pos h⟩

/-- A wait below everything owed is allowed. -/
theorem mayWait_below (c : Dev nD) (sm : SemLoc sig) (O : CellTallies nD τ sig Unit) (b : ℕ) (hb : lv ((c : Thread nD τ), sm) () ≤ b)
    (hO : ∀ g u, 0 < O g u → g.1.2 = .tc ∧ b < lv g ()) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-- With `n` phases to go, a wait below the receive cell of the first of them. -/
theorem mayWait_owe (c : Dev nD) (sm : SemLoc sig) (n : ℕ) (hn : n ≤ 6) (hb : lv ((c : Thread nD τ), sm) () ≤ 7 - n) :
    (levAts L lv : sProp 𝕄) ⊢ MayWait (c : Thread nD τ) sm () (owe c n) :=
  mayWait_below c sm _ (7 - n) hb fun g u hg => by
    obtain ⟨k, hk, rfl⟩ := owe_pos n hn hg
    exact ⟨rfl, by rw [lv_recv]; omega⟩

/-- A wait at level 0 is allowed with everything owed. -/
theorem mayWait_zero (c : Dev nD) (sm : SemLoc sig) (hb : lv ((c : Thread nD τ), sm) () = 0) :
    (levAts L lv : sProp 𝕄) ⊢ MayWait (c : Thread nD τ) sm () (O₀ c) :=
  mayWait_below c sm _ 0 (Nat.le_of_eq hb) fun g u hg => by
    rcases O₀_pos hg with ⟨k, rfl⟩ | ⟨a, rfl⟩
    · exact ⟨rfl, by rw [lv_recv]; omega⟩
    · exact ⟨rfl, Nat.one_pos⟩

end Cert.Attn
end
end
-- ==== Proof.Phase.lean ====
/- One phase of the exchange: the send of a block to a partner, the wait that the send is done and the wait for the
   partner's block, over the records of all the cells. -/
module

public import proofs.«01_k».proof.Proof.Schedule

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (P : Dev nD → Arr F)

/-! ## The records -/

/-- The semaphores of the twelve send and receive cells of a device. -/
def xsem (k : Fin 12) : SemLoc sig := .dma ⟨6 + k.val, by have := k.isLt; show 6 + k.val < 18; omega⟩
theorem xsem_inj : Function.Injective xsem := fun a b h => by
  have h' := congrArg (fun s : SemLoc sig => match s with | .dma q => q.val | .reg _ => 0) h
  exact Fin.ext (Nat.add_left_cancel h')

def barEmb : Dev nD ↪ GSem nD τ sig := ⟨fun c => bcell c, fun _ _ h => congrArg (fun g : GSem nD τ sig => g.1.1) h⟩
def xEmb : Dev nD × Fin 12 ↪ GSem nD τ sig :=
  ⟨fun ck => ((ck.1 : Thread nD τ), xsem ck.2), fun _ _ h =>
    Prod.ext (congrArg (fun g : GSem nD τ sig => g.1.1) h) (xsem_inj (congrArg Prod.snd h))⟩
abbrev barCells : Finset (GSem nD τ sig) := Finset.univ.map barEmb
abbrev xCells : Finset (GSem nD τ sig) := Finset.univ.map xEmb

theorem bar_mem (c : Dev nD) : bcell c ∈ (barCells ∪ xCells : Finset (GSem nD τ sig)) :=
  Finset.mem_union_left _ (Finset.mem_map_of_mem barEmb (Finset.mem_univ c))
theorem send_mem (k : Fin 6) (c : Dev nD) : scell k c ∈ (barCells ∪ xCells : Finset (GSem nD τ sig)) :=
  Finset.mem_union_right _ (Finset.mem_map.mpr ⟨(c, ⟨k.val, by omega⟩), Finset.mem_univ _, rfl⟩)
theorem recv_mem (k : Fin 6) (c : Dev nD) : rcell k c ∈ (barCells ∪ xCells : Finset (GSem nD τ sig)) :=
  Finset.mem_union_right _ (Finset.mem_map.mpr ⟨(c, ⟨6 + k.val, by omega⟩), Finset.mem_univ _,
    Prod.ext rfl (congrArg SemLoc.dma (Fin.ext (show 6 + (6 + k.val) = 12 + k.val by omega)))⟩)

/-- What every device may consult: the invariants of all the cells, and that every barrier cell is open. -/
def records (κ : GSem nD τ sig → ℕ) : sProp 𝕄 :=
  iprop((bigSep (barCells ∪ xCells) fun g => cellInv ER (sched P) (κ g) g) ∗ bigSep barCells fun g => reached ER g 0)

instance records_persistent (κ : GSem nD τ sig → ℕ) : BI.Persistent (records P κ) := by unfold records; infer_instance

/-- One invariant, one barrier cell, of all. -/
theorem inv_pick (κ : GSem nD τ sig → ℕ) {g : GSem nD τ sig} (hg : g ∈ (barCells ∪ xCells : Finset (GSem nD τ sig))) :
    (bigSep (barCells ∪ xCells) fun g => (cellInv ER (sched P) (κ g) g : sProp 𝕄)) ⊢ cellInv ER (sched P) (κ g) g :=
  bigSep_elim hg
omit [FloatOps F] [Named F] in
theorem reached_pick (c : Dev nD) : (bigSep barCells fun g => (reached ER g 0 : sProp 𝕄)) ⊢ reached ER (bcell c) 0 :=
  bigSep_elim (Finset.mem_map_of_mem barEmb (Finset.mem_univ c))

theorem inv_at (κ : GSem nD τ sig → ℕ) {g : GSem nD τ sig} (hg : g ∈ (barCells ∪ xCells : Finset (GSem nD τ sig))) :
    records P κ ⊢ cellInv ER (sched P) (κ g) g := by
  unfold records
  iintro ⟨#HI, -⟩
  iapply (inv_pick P κ hg); iexact HI

theorem reached_bar (κ : GSem nD τ sig → ℕ) (c : Dev nD) : records P κ ⊢ reached ER (bcell c) 0 := by
  unfold records
  iintro ⟨-, #HR⟩
  iapply (reached_pick (F := F) c); iexact HR

/-! ## What a phase uses -/

/-- What device `c` brings to phase `k`: its positions at the two cells, the tokens of the two duties it pays, that the
    cells are open, and the credit its partner will pay. -/
def gear (k : Fin 6) (c : Dev nD) : sProp 𝕄 :=
  iprop(atPos ER (scell k c) 0 ∅ 0 ∗ atPos ER (rcell k c) 0 ∅ 0
    ∗ dutyTok ER (scell k c) 0 (0 : Fin 3) ∗ reached ER (scell k c) 0
    ∗ dutyTok ER (rcell k (prt (axis k) c)) 0 (0 : Fin 3)
    ∗ cred (tallyAt (rcell k c) () (amt k)))

/-- The debt with `n` phases to go. -/
def owing (c : Dev nD) (n : ℕ) : sProp 𝕄 := iprop(∃ W, owes (c : Thread nD τ) (owe c n) W)

theorem owe_succ (c : Dev nD) (n : ℕ) : owe c (n + 1) = owe c n + tallyAt (rcell (ph n) (prt (axis (ph n)) c)) () (amt (ph n)) := rfl

/-- What a phase leaves: the two counters at zero, what the two waits collect. -/
def done (k : Fin 6) (c : Dev nD) : sProp 𝕄 :=
  iprop((semVal (scell k c) 0 ∗ semVal (rcell k c) 0) ∗ sendPay P c k.val ∗ recvPay P c k.val)

theorem lv_send (k : Fin 6) (c : Dev nD) : lv ((c : Thread nD τ), SemLoc.dma (sS k)) () = 0 :=
  if_neg (show ¬ 12 ≤ 6 + k.val by have := k.isLt; omega)

variable (κ : GSem nD τ sig → ℕ)

/-- A wait on a send or receive cell with one duty, below everything owed, and the cell's counter afterwards. -/
theorem wait_close (c : Dev nD) (q : DmaSem sig) (n : ℕ) (hn : n ≤ 6) (pay : sProp 𝕄) {am : ℕ}
    (hg : ((c : Thread nD τ), SemLoc.dma q) ∈ (barCells ∪ xCells : Finset (GSem nD τ sig)))
    (hl : lv ((c : Thread nD τ), SemLoc.dma q) () ≤ 7 - n)
    (hx : (sched P).expect ((c : Thread nD τ), SemLoc.dma q) 0 = am)
    (hp : bigSep ((sched P).duties ((c : Thread nD τ), SemLoc.dma q) 0 \ ∅) (fun d => (sched P).payload ((c : Thread nD τ), SemLoc.dma q) 0 d) = pay)
    {sp sp' : Space} {sh sh' : Shape} {e e' : EltTy} {src : Memref sig .tc sp sh e} {dst : Memref sig .tc sp' sh' e'}
    {hsrc : src.view.WordExact} {hdst : dst.view.WordExact} (hN : dst.view.dmaCredit = am)
    {α : Type} {Q : α → sProp 𝕄} {kk : PUnit → Prog (TpuEff nD τ sig (Elt F) Λ₀ .tc) α} :
    iprop(records P κ ∗ levAts L lv ∗ cred (tallyAt ((c : Thread nD τ), SemLoc.dma q) () am) ∗ owing c n
        ∗ atPos ER ((c : Thread nD τ), SemLoc.dma q) 0 ∅ 0)
      ⊢ iprop(((owing c n ∗ semVal ((c : Thread nD τ), SemLoc.dma q) 0 ∗ pay)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  unfold owing
  iintro ⟨#HR, #HL, Hc, ⟨%W, HO⟩, Hat⟩ Hk
  iapply (Rounds.wp_wait_rest_token 𝒱₀ ER (sched P) (c : Thread nD τ) none (κ := κ ((c : Thread nD τ), SemLoc.dma q))
      (wpE_waitDma2_eq 𝒱₀ (c : Thread nD τ) none Set.univ) (Set.mem_univ _) () (O := owe c n) (W := W) (R := 0) (m := 0) (T := ∅)
      (by rw [Nat.zero_add, hN, hx])) $$ [Hc HO Hat]
  · isplitr; · iapply (inv_at P κ hg); iexact HR
    isplitl [Hc]; · rw [hN]; iexact Hc
    isplitl [HO]; · iexact HO
    isplitr; · iapply (mayWait_owe c (.dma q) n hn hl); iexact HL
    iexact Hat
  iintro ⟨HO, Hat, -, Hpay⟩
  imod (Rounds.cell_close ER (sched P) (Set.mem_univ (κ ((c : Thread nD τ), SemLoc.dma q))) (fun h => h) (R := 0 + 1)
    (duties_later P ((c : Thread nD τ), SemLoc.dma q))) $$ [Hat] with Hz
  · isplitr; · iapply (inv_at P κ hg); iexact HR
    iexact Hat
  iapply Hk
  isplitl [HO]; · iexists _; iexact HO
  isplitl [Hz]; · iexact Hz
  iapply (Entails.of_eq hp); iexact Hpay

variable {sh : Shape} {c d : Dev nD} {src dst x y x' y' : Memref sig .tc .vmem sh .bf16} {fs : Buf (Elt F) (src.view.loc (c : Thread nD τ))}

/-- The two waits of a phase. -/
theorem phase_waits (k : Fin 6) (n : ℕ) (hn : n + k.val = 5) (hy : y.view.dmaCredit = amt k) (hy' : y'.view.dmaCredit = amt k)
    {wx : x.view.WordExact} {wy : y.view.WordExact} {wx' : x'.view.WordExact} {wy' : y'.view.WordExact}
    {α : Type} {Q : α → sProp 𝕄} {kk : PUnit → Prog (TpuEff nD τ sig (Elt F) Λ₀ .tc) α} :
    iprop(records P κ ∗ levAts L lv ∗ cred (tallyAt (scell k c) () (amt k)) ∗ owing c n
        ∗ atPos ER (scell k c) 0 ∅ 0 ∗ atPos ER (rcell k c) 0 ∅ 0 ∗ cred (tallyAt (rcell k c) () (amt k)))
      ⊢ iprop(((owing c n ∗ done P k c)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sS k) x y wx wy) fun _ => .op (.waitDma2 (rS k) x' y' wx' wy') kk) Q) := by
  iintro ⟨#HR, #HL, HcS, HO, HaS, HaR, HcR⟩ Hk
  iapply (wait_close P κ c (sS k) n (by omega) _ (send_mem k c) (by rw [lv_send]; exact Nat.zero_le _) (expect_send P c k) (rest_send P c k) hy)
    $$ [HcS HO HaS]
  · isplitr; · iexact HR
    isplitr; · iexact HL
    isplitl [HcS]; · iexact HcS
    isplitl [HO]; · iexact HO
    iexact HaS
  iintro ⟨HO, Hz, Hp⟩
  iapply (wait_close P κ c (rS k) n (by omega) _ (recv_mem k c) (by rw [lv_recv]; omega) (expect_recv P c k) (rest_recv P c k) hy')
    $$ [HcR HO HaR]
  · isplitr; · iexact HR
    isplitr; · iexact HL
    isplitl [HcR]; · iexact HcR
    isplitl [HO]; · iexact HO
    iexact HaR
  iintro ⟨HO, Hz', Hp'⟩
  iapply Hk
  isplitl [HO]; · iexact HO
  unfold done
  isplitl [Hz Hz']; · isplitl [Hz] <;> iassumption
  isplitl [Hp] <;> iassumption

/-- A phase of the reduce-scatter: the rows sent go with the landing to the partner. -/
theorem phase_scatter (k : Fin 6) (n : ℕ) (hn : n + k.val = 5) (hd : d = prt (axis k) c)
    (hN : dst.view.amount (SemLoc.dma (rS k) : SemLoc sig) = amt k) (hy : y.view.dmaCredit = amt k) (hy' : y'.view.dmaCredit = amt k)
    {fd : Buf (Elt F) (dst.view.loc (d : Thread nD τ))}
    (hp₁ : sendPay P c k.val = iprop(emp))
    (hp₂ : iprop((dst.view.loc (d : Thread nD τ) ↦[dst.view.set]{fullShare} (dst.view.write (Elt F) fd (src.view.read (Elt F) fs) Finset.univ))
              ∗ (src.view.loc (c : Thread nD τ) ↦[src.view.set]{fullShare} fs)) ⊢ recvPay P d k.val)
    {hsc : (dst : Memref sig (Dev.tc d : Thread nD τ).2.kind .vmem sh .bf16).view.ref.isScScratch = false}
    {hsrc : src.view.WordExact} {hdst : dst.view.WordExact}
    {hsem : DmaTarget.Typed .vmem (.dma (rS k)) (.remote (Dev.tc d : Thread nD τ) (dst : Memref sig (Dev.tc d : Thread nD τ).2.kind .vmem sh .bf16) (.dma (sS k)) hsc)}
    {wx : x.view.WordExact} {wy : y.view.WordExact} {wx' : x'.view.WordExact} {wy' : y'.view.WordExact}
    {α : Type} {Q : α → sProp 𝕄} {kk : PUnit → Prog (TpuEff nD τ sig (Elt F) Λ₀ .tc) α} :
    iprop(records P κ ∗ levAts L lv ∗ (src.view.loc (c : Thread nD τ) ↦[src.view.set]{fullShare} fs)
        ∗ (dst.view.loc (d : Thread nD τ) ↦[dst.view.set]{fullShare} fd)
        ∗ owing c (n + 1) ∗ gear k c ∗ reached ER (rcell k d) 0)
      ⊢ iprop(((owing c n ∗ done P k c)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma (sS k)) hsc) (.dma (rS k)) hsrc hdst hsem)
                fun _ => .op (.waitDma2 (sS k) x y wx wy) fun _ => .op (.waitDma2 (rS k) x' y' wx' wy') kk) Q) := by
  subst hd
  have hk : ph n = k := Fin.ext (show 5 - n = k.val by omega)
  unfold gear
  iintro ⟨#HR, #HL, Hs, Hd, HO, ⟨HaS, HaR, HtS, #HrS, HtR, HcR⟩, #HrR⟩ Hk
  unfold owing
  icases HO with ⟨%W, HO⟩
  iapply (Rounds.wp_send_landing_pointsTo 𝒱₀ ER (sched P) (c : Thread nD τ) none (c' := (prt (axis k) c : Thread nD τ)) (src := src) (dst := dst)
      (sS := .dma (sS k)) (sem := .dma (rS k)) (q := fullShare) (fs := fs) (fd := fd) (r₁ := 0) (r₂ := 0) (d₁ := 0) (d₂ := 0)
      (κ₁ := κ (scell k c)) (κ₂ := κ (rcell k (prt (axis k) c)))
      (by rw [duties_send]; exact Finset.mem_singleton_self _) (by rw [duties_recv]; exact Finset.mem_singleton_self _)
      () () (amt k) hN (amount_send P c k 0) (amount_recv P _ k 0) (owe c n) ((owe_succ c n).trans (by rw [hk])) (W := W)
      (by rw [payload_send, hp₁]) (by rw [payload_recv]; exact hp₂)) $$ [Hs Hd HO HtS HtR]
  · isplitr; · iapply (inv_at P κ (send_mem k c)); iexact HR
    isplitr; · iapply (inv_at P κ (recv_mem k (prt (axis k) c))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply (phase_waits P κ (c := c) k n hn hy hy') $$ [HcS HO HaS HaR HcR]
  · isplitr; · iexact HR
    isplitr; · iexact HL
    isplitl [HcS]; · iexact HcS
    isplitl [HO]; · unfold owing; iexists _; iexact HO
    isplitl [HaS]; · iexact HaS
    isplitl [HaR]; · iexact HaR
    iexact HcR
  iintro ⟨HO, HD⟩
  iapply Hk
  isplitl [HO]; · unfold owing; iexact HO
  iexact HD

/-- A phase of the all-gather: the rows sent come back, the copy goes to the partner's same rows. -/
theorem phase_gather (k : Fin 6) (n : ℕ) (hn : n + k.val = 5) (hd : d = prt (axis k) c)
    (hN : dst.view.amount (SemLoc.dma (rS k) : SemLoc sig) = amt k) (hy : y.view.dmaCredit = amt k) (hy' : y'.view.dmaCredit = amt k)
    {fd : Buf (Elt F) (dst.view.loc (d : Thread nD τ))}
    (hp₁ : (src.view.loc (c : Thread nD τ) ↦[src.view.set]{fullShare} fs) ⊢ sendPay P c k.val)
    (hp₂ : (dst.view.loc (d : Thread nD τ) ↦[dst.view.set]{fullShare} (dst.view.write (Elt F) fd (src.view.read (Elt F) fs) Finset.univ))
              ⊢ recvPay P d k.val)
    {hsc : (dst : Memref sig (Dev.tc d : Thread nD τ).2.kind .vmem sh .bf16).view.ref.isScScratch = false}
    {hsrc : src.view.WordExact} {hdst : dst.view.WordExact}
    {hsem : DmaTarget.Typed .vmem (.dma (rS k)) (.remote (Dev.tc d : Thread nD τ) (dst : Memref sig (Dev.tc d : Thread nD τ).2.kind .vmem sh .bf16) (.dma (sS k)) hsc)}
    {wx : x.view.WordExact} {wy : y.view.WordExact} {wx' : x'.view.WordExact} {wy' : y'.view.WordExact}
    {α : Type} {Q : α → sProp 𝕄} {kk : PUnit → Prog (TpuEff nD τ sig (Elt F) Λ₀ .tc) α} :
    iprop(records P κ ∗ levAts L lv ∗ (src.view.loc (c : Thread nD τ) ↦[src.view.set]{fullShare} fs)
        ∗ (dst.view.loc (d : Thread nD τ) ↦[dst.view.set]{fullShare} fd)
        ∗ owing c (n + 1) ∗ gear k c ∗ reached ER (rcell k d) 0)
      ⊢ iprop(((owing c n ∗ done P k c)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma (sS k)) hsc) (.dma (rS k)) hsrc hdst hsem)
                fun _ => .op (.waitDma2 (sS k) x y wx wy) fun _ => .op (.waitDma2 (rS k) x' y' wx' wy') kk) Q) := by
  subst hd
  have hk : ph n = k := Fin.ext (show 5 - n = k.val by omega)
  unfold gear
  iintro ⟨#HR, #HL, Hs, Hd, HO, ⟨HaS, HaR, HtS, #HrS, HtR, HcR⟩, #HrR⟩ Hk
  unfold owing
  icases HO with ⟨%W, HO⟩
  iapply (Rounds.wp_send_pointsTo 𝒱₀ ER (sched P) (c : Thread nD τ) none (c' := (prt (axis k) c : Thread nD τ)) (src := src) (dst := dst)
      (sS := .dma (sS k)) (sem := .dma (rS k)) (q := fullShare) (fs := fs) (fd := fd) (r₁ := 0) (r₂ := 0) (d₁ := 0) (d₂ := 0)
      (κ₁ := κ (scell k c)) (κ₂ := κ (rcell k (prt (axis k) c)))
      (by rw [duties_send]; exact Finset.mem_singleton_self _) (by rw [duties_recv]; exact Finset.mem_singleton_self _)
      () () (amt k) hN (amount_send P c k 0) (amount_recv P _ k 0) (owe c n) ((owe_succ c n).trans (by rw [hk])) (W := W)
      (by rw [payload_send]; exact hp₁) (by rw [payload_recv]; exact hp₂)) $$ [Hs Hd HO HtS HtR]
  · isplitr; · iapply (inv_at P κ (send_mem k c)); iexact HR
    isplitr; · iapply (inv_at P κ (recv_mem k (prt (axis k) c))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply (phase_waits P κ (c := c) k n hn hy hy') $$ [HcS HO HaS HaR HcR]
  · isplitr; · iexact HR
    isplitr; · iexact HL
    isplitl [HcS]; · iexact HcS
    isplitl [HO]; · unfold owing; iexists _; iexact HO
    isplitl [HaS]; · iexact HaS
    isplitl [HaR]; · iexact HaR
    iexact HcR
  iintro ⟨HO, HD⟩
  iapply Hk
  isplitl [HO]; · unfold owing; iexact HO
  iexact HD

end Cert.Attn
end
end
-- ==== Proof.Blocks.lean ====
/- The blocks of the exchange as rows, what each phase's copies and sums leave there, and the payloads they make. -/
module

public import proofs.«01_k».proof.Proof.Phase
public import Idealize.ShloMosaic.Lib.Pipeline.Value

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Arr F)

/-! ## Points-tos of blocks as points-tos of rows -/

theorem s0_pts (c d : Dev nD) (f : Arr F) : ((s0 c).view.loc (d : Thread nD τ) ↦[(s0 c).view.set]{fullShare} f : sProp 𝕄) = cPts d (S0 c) f :=
  congrArg (fun I => (cM.view.loc (d : Thread nD τ) ↦[I]{fullShare} f : sProp 𝕄)) (s0_set c)
theorem s1_pts (c d : Dev nD) (f : Arr F) : ((s1 c).view.loc (d : Thread nD τ) ↦[(s1 c).view.set]{fullShare} f : sProp 𝕄) = cPts d (S1 c) f :=
  congrArg (fun I => (cM.view.loc (d : Thread nD τ) ↦[I]{fullShare} f : sProp 𝕄)) (s1_set c)
theorem s2_pts (c d : Dev nD) (f : Arr F) : ((s2 c).view.loc (d : Thread nD τ) ↦[(s2 c).view.set]{fullShare} f : sProp 𝕄) = cPts d (S2 c) f :=
  congrArg (fun I => (cM.view.loc (d : Thread nD τ) ↦[I]{fullShare} f : sProp 𝕄)) (s2_set c)

/-- The blocks of the all-gather. -/
abbrev g3 (c : Dev nD) := blk2 (k0_off9 c) (k0_off9_inb c)
abbrev g4 (c : Dev nD) := blk1 (k0_off10 c) (k0_off10_inb c)
abbrev g5 (c : Dev nD) := blk0 (k0_off11 c) (k0_off11_inb c)
theorem g3_set (c : Dev nD) : (g3 c).view.set = K2 c :=
  (set_blk2 _ (by rw [off9_eq]; exact off8_col c)).trans (by rw [K2, off9_eq, off8_row])
theorem g4_set (c : Dev nD) : (g4 c).view.set = K1 c :=
  (set_blk1 _ (by rw [off10_eq]; exact off6_col c)).trans (by rw [K1, off10_eq, off6_row])
theorem g5_set (c : Dev nD) : (g5 c).view.set = K0 c :=
  (set_blk0 _ (by rw [off11_eq]; exact off4_col c)).trans (by rw [K0, off11_eq, off4_row])
theorem g3_pts (c d : Dev nD) (f : Arr F) : ((g3 c).view.loc (d : Thread nD τ) ↦[(g3 c).view.set]{fullShare} f : sProp 𝕄) = cPts d (K2 c) f :=
  congrArg (fun I => (cM.view.loc (d : Thread nD τ) ↦[I]{fullShare} f : sProp 𝕄)) (g3_set c)
theorem g4_pts (c d : Dev nD) (f : Arr F) : ((g4 c).view.loc (d : Thread nD τ) ↦[(g4 c).view.set]{fullShare} f : sProp 𝕄) = cPts d (K1 c) f :=
  congrArg (fun I => (cM.view.loc (d : Thread nD τ) ↦[I]{fullShare} f : sProp 𝕄)) (g4_set c)
theorem g5_pts (c d : Dev nD) (f : Arr F) : ((g5 c).view.loc (d : Thread nD τ) ↦[(g5 c).view.set]{fullShare} f : sProp 𝕄) = cPts d (K0 c) f :=
  congrArg (fun I => (cM.view.loc (d : Thread nD τ) ↦[I]{fullShare} f : sProp 𝕄)) (g5_set c)
theorem slot0_pts (d : Dev nD) (f : FVec F S1792x1024 .bf16) : (slot0.view.loc (d : Thread nD τ) ↦[slot0.view.set]{fullShare} f : sProp 𝕄) = lPts d (lrows 0 1024) f :=
  congrArg (fun I => (lM.view.loc (d : Thread nD τ) ↦[I]{fullShare} f : sProp 𝕄)) slot0_set
theorem slot1_pts (d : Dev nD) (f : FVec F S1792x1024 .bf16) : (slot1.view.loc (d : Thread nD τ) ↦[slot1.view.set]{fullShare} f : sProp 𝕄) = lPts d (lrows 1024 512) f :=
  congrArg (fun I => (lM.view.loc (d : Thread nD τ) ↦[I]{fullShare} f : sProp 𝕄)) slot1_set
theorem slot2_pts (d : Dev nD) (f : FVec F S1792x1024 .bf16) : (slot2.view.loc (d : Thread nD τ) ↦[slot2.view.set]{fullShare} f : sProp 𝕄) = lPts d (lrows 1536 256) f :=
  congrArg (fun I => (lM.view.loc (d : Thread nD τ) ↦[I]{fullShare} f : sProp 𝕄)) slot2_set

/-! ## Contents -/

/-- Cells a block of the exchange buffer was written at. -/
theorem written {r : Rect S2048x1024} (f G : Arr F) (w : r.shape.Idx → F .bf16) (hw : ∀ x, w x = G (r.emb x)) :
    ∀ i ∈ (cM.access r).set, (cM.access r).write (Elt F) f w Finset.univ i = G i := by
  intro i hi
  obtain ⟨x, -, rfl⟩ := Finset.mem_map.mp hi
  exact (View.write_emb_of_mem (v := cM.access r) (Val := Elt F) f w (Finset.mem_univ x)).trans (hw x)

/-- A block copied onto the same rows. -/
theorem copied {r : Rect S2048x1024} (f G : Arr F) :
    ∀ i ∈ (cM.access r).set, (cM.access r).write (Elt F) f ((cM.access r).read (Elt F) G) Finset.univ i = G i :=
  written f G _ fun _ => rfl

/-- Equal offsets, equal reads. -/
theorem blk0_read {o o' : Fin 2 → ℕ} (e : o = o') (h) (h') (f : Arr F) : (blk0 o h).view.read (Elt F) f = (blk0 o' h').view.read (Elt F) f := by
  subst e; rfl
theorem blk1_read {o o' : Fin 2 → ℕ} (e : o = o') (h) (h') (f : Arr F) : (blk1 o h).view.read (Elt F) f = (blk1 o' h').view.read (Elt F) f := by
  subst e; rfl
theorem blk2_read {o o' : Fin 2 → ℕ} (e : o = o') (h) (h') (f : Arr F) : (blk2 o h).view.read (Elt F) f = (blk2 o' h').view.read (Elt F) f := by
  subst e; rfl

/-- The rows kept at phase 0, and what the sum leaves there. -/
abbrev r4 (c : Dev nD) : Rect S2048x1024 := Rect.unit (s := S2048x1024) (k0_off4 c) S1024x1024.size (k0_off4_inb c)
abbrev q0 : Rect S1792x1024 := Rect.unit (s := S1792x1024) ![0, 0] S1024x1024.size inb_S1792x1024_S1024x1024_0_0
theorem r4_set (c : Dev nD) : (cM.access (r4 c)).set = K0 c := k0_set c
theorem keep0 (c : Dev nD) (f : Arr F) (g : FVec F S1792x1024 .bf16) : ∀ i ∈ K0 c,
    (cM.access (r4 c)).write (Elt F) f (k0_pay74 ((cM.access (r4 c)).read (Elt F) (P c))
      ((lM.access q0).read (Elt F) (land0 g (prt 0 c) (P (prt 0 c))))) Finset.univ i = A1 P c i := by
  rw [← r4_set]
  refine written (r := r4 c) f (A1 P c) _ fun x => ?_
  unfold k0_pay74
  rw [shapeCast_self]
  have h : (lM.access q0).read (Elt F) (land0 g (prt 0 c) (P (prt 0 c))) = (s0 (prt 0 c)).view.read (Elt F) (P (prt 0 c)) :=
    View.read_write_univ (v := slot0.view) (Val := Elt F) g _
  rw [h.trans (blk0_read (off3_prt c) _ (k0_off4_inb c) _)]
  rfl

/-- The rows kept at phase 1, and what the sum leaves there. -/
abbrev r6 (c : Dev nD) : Rect S2048x1024 := Rect.unit (s := S2048x1024) (k0_off6 c) S512x1024.size (k0_off6_inb c)
abbrev q1 : Rect S1792x1024 := Rect.unit (s := S1792x1024) ![1024, 0] S512x1024.size inb_S1792x1024_S512x1024_1024_0
theorem r6_set (c : Dev nD) : (cM.access (r6 c)).set = K1 c := k1_set c
theorem keep1 (c : Dev nD) (f : Arr F) (g : FVec F S1792x1024 .bf16) : ∀ i ∈ K1 c,
    (cM.access (r6 c)).write (Elt F) f (k0_pay75 ((cM.access (r6 c)).read (Elt F) (A1 P c))
      ((lM.access q1).read (Elt F) (land1 g (prt 1 c) (A1 P (prt 1 c))))) Finset.univ i = A2 P c i := by
  rw [← r6_set]
  refine written (r := r6 c) f (A2 P c) _ fun x => ?_
  unfold k0_pay75
  rw [shapeCast_self]
  have h : (lM.access q1).read (Elt F) (land1 g (prt 1 c) (A1 P (prt 1 c))) = (s1 (prt 1 c)).view.read (Elt F) (A1 P (prt 1 c)) :=
    View.read_write_univ (v := slot1.view) (Val := Elt F) g _
  rw [h.trans (blk1_read (off5_prt c) _ (k0_off6_inb c) _)]
  rfl

/-- The rows kept at phase 2, and what the sum leaves there. -/
abbrev r8 (c : Dev nD) : Rect S2048x1024 := Rect.unit (s := S2048x1024) (k0_off8 c) S256x1024.size (k0_off8_inb c)
abbrev q2 : Rect S1792x1024 := Rect.unit (s := S1792x1024) ![1536, 0] S256x1024.size inb_S1792x1024_S256x1024_1536_0
theorem r8_set (c : Dev nD) : (cM.access (r8 c)).set = K2 c := k2_set c
theorem keep2 (c : Dev nD) (f : Arr F) (g : FVec F S1792x1024 .bf16) : ∀ i ∈ K2 c,
    (cM.access (r8 c)).write (Elt F) f (k0_pay76 ((cM.access (r8 c)).read (Elt F) (A2 P c))
      ((lM.access q2).read (Elt F) (land2 g (prt 2 c) (A2 P (prt 2 c))))) Finset.univ i = A3 P c i := by
  rw [← r8_set]
  refine written (r := r8 c) f (A3 P c) _ fun x => ?_
  unfold k0_pay76
  rw [shapeCast_self]
  have h : (lM.access q2).read (Elt F) (land2 g (prt 2 c) (A2 P (prt 2 c))) = (s2 (prt 2 c)).view.read (Elt F) (A2 P (prt 2 c)) :=
    View.read_write_univ (v := slot2.view) (Val := Elt F) g _
  rw [h.trans (blk2_read (off7_prt c) _ (k0_off8_inb c) _)]
  rfl

/-! ## Payloads -/

theorem scatter0 (c : Dev nD) (fd : FVec F S1792x1024 .bf16) :
    iprop((slot0.view.loc (prt 0 c : Thread nD τ) ↦[slot0.view.set]{fullShare} (slot0.view.write (Elt F) fd ((s0 c).view.read (Elt F) (P c)) Finset.univ))
        ∗ ((s0 c).view.loc (c : Thread nD τ) ↦[(s0 c).view.set]{fullShare} (P c))) ⊢ recvPay P (prt 0 c) 0 := by
  rw [slot0_pts, s0_pts]
  rw [show recvPay P (prt 0 c) 0 = iprop((∃ f, lPts (prt 0 c) (lrows 0 1024) (land0 f (prt 0 (prt 0 c)) (P (prt 0 (prt 0 c)))))
      ∗ cPts (prt 0 (prt 0 c)) (K0 (prt 0 c)) (P (prt 0 (prt 0 c)))) from rfl, prt_prt, K0_prt]
  iintro ⟨Hd, Hs⟩
  isplitl [Hd]; · iexists fd; iexact Hd
  iexact Hs
theorem scatter1 (c : Dev nD) (fd : FVec F S1792x1024 .bf16) :
    iprop((slot1.view.loc (prt 1 c : Thread nD τ) ↦[slot1.view.set]{fullShare} (slot1.view.write (Elt F) fd ((s1 c).view.read (Elt F) (A1 P c)) Finset.univ))
        ∗ ((s1 c).view.loc (c : Thread nD τ) ↦[(s1 c).view.set]{fullShare} (A1 P c))) ⊢ recvPay P (prt 1 c) 1 := by
  rw [slot1_pts, s1_pts]
  rw [show recvPay P (prt 1 c) 1 = iprop((∃ f, lPts (prt 1 c) (lrows 1024 512) (land1 f (prt 1 (prt 1 c)) (A1 P (prt 1 (prt 1 c)))))
      ∗ cPts (prt 1 (prt 1 c)) (K1 (prt 1 c)) (A1 P (prt 1 (prt 1 c)))) from rfl, prt_prt, K1_prt]
  iintro ⟨Hd, Hs⟩
  isplitl [Hd]; · iexists fd; iexact Hd
  iexact Hs
theorem scatter2 (c : Dev nD) (fd : FVec F S1792x1024 .bf16) :
    iprop((slot2.view.loc (prt 2 c : Thread nD τ) ↦[slot2.view.set]{fullShare} (slot2.view.write (Elt F) fd ((s2 c).view.read (Elt F) (A2 P c)) Finset.univ))
        ∗ ((s2 c).view.loc (c : Thread nD τ) ↦[(s2 c).view.set]{fullShare} (A2 P c))) ⊢ recvPay P (prt 2 c) 2 := by
  rw [slot2_pts, s2_pts]
  rw [show recvPay P (prt 2 c) 2 = iprop((∃ f, lPts (prt 2 c) (lrows 1536 256) (land2 f (prt 2 (prt 2 c)) (A2 P (prt 2 (prt 2 c)))))
      ∗ cPts (prt 2 (prt 2 c)) (K2 (prt 2 c)) (A2 P (prt 2 (prt 2 c)))) from rfl, prt_prt, K2_prt]
  iintro ⟨Hd, Hs⟩
  isplitl [Hd]; · iexists fd; iexact Hd
  iexact Hs
theorem gather3 (c : Dev nD) (fd : Arr F) :
    ((g3 c).view.loc (prt 2 c : Thread nD τ) ↦[(g3 c).view.set]{fullShare} ((g3 c).view.write (Elt F) fd ((g3 c).view.read (Elt F) (A3 P c)) Finset.univ))
      ⊢ recvPay P (prt 2 c) 3 := by
  rw [pointsTo_congr (g := A3 P c) (copied (r := _) fd (A3 P c)), g3_pts]
  rw [show recvPay P (prt 2 c) 3 = cPts (prt 2 c) (S2 (prt 2 c)) (A3 P (prt 2 (prt 2 c))) from rfl, prt_prt, S2_prt]
theorem back3 (c : Dev nD) : ((g3 c).view.loc (c : Thread nD τ) ↦[(g3 c).view.set]{fullShare} (A3 P c)) ⊢ sendPay P c 3 := by
  rw [g3_pts]; exact BI.Entails.refl _
theorem gather4 (c : Dev nD) (fd : Arr F) :
    ((g4 c).view.loc (prt 1 c : Thread nD τ) ↦[(g4 c).view.set]{fullShare} ((g4 c).view.write (Elt F) fd ((g4 c).view.read (Elt F) (B3 P c)) Finset.univ))
      ⊢ recvPay P (prt 1 c) 4 := by
  rw [pointsTo_congr (g := B3 P c) (copied (r := _) fd (B3 P c)), g4_pts]
  rw [show recvPay P (prt 1 c) 4 = cPts (prt 1 c) (S1 (prt 1 c)) (B3 P (prt 1 (prt 1 c))) from rfl, prt_prt, S1_prt]
theorem back4 (c : Dev nD) : ((g4 c).view.loc (c : Thread nD τ) ↦[(g4 c).view.set]{fullShare} (B3 P c)) ⊢ sendPay P c 4 := by
  rw [g4_pts]; exact BI.Entails.refl _
theorem gather5 (c : Dev nD) (fd : Arr F) :
    ((g5 c).view.loc (prt 0 c : Thread nD τ) ↦[(g5 c).view.set]{fullShare} ((g5 c).view.write (Elt F) fd ((g5 c).view.read (Elt F) (B4 P c)) Finset.univ))
      ⊢ recvPay P (prt 0 c) 5 := by
  rw [pointsTo_congr (g := B4 P c) (copied (r := _) fd (B4 P c)), g5_pts]
  rw [show recvPay P (prt 0 c) 5 = cPts (prt 0 c) (S0 (prt 0 c)) (B4 P (prt 0 (prt 0 c))) from rfl, prt_prt, S0_prt]
theorem back5 (c : Dev nD) : ((g5 c).view.loc (c : Thread nD τ) ↦[(g5 c).view.set]{fullShare} (B4 P c)) ⊢ sendPay P c 5 := by
  rw [g5_pts]; exact BI.Entails.refl _
/-- The rows received and the rows held, together. -/
theorem joined3 (c : Dev nD) : iprop(cPts c (S2 c) (A3 P (prt 2 c)) ∗ cPts c (K2 c) (A3 P c)) ⊢ cPts c (K1 c) (B3 P c) := by
  have hr : (cPts c (S2 c) (A3 P (prt 2 c)) : sProp 𝕄) = cPts c (S2 c) (B3 P c) := pointsTo_congr fun i hi => (if_pos hi).symm
  have hk : (cPts c (K2 c) (A3 P c) : sProp 𝕄) = cPts c (K2 c) (B3 P c) :=
    pointsTo_congr fun i hi => (if_neg fun h => Finset.disjoint_left.mp (disj2 c) h hi).symm
  rw [hr, hk, split2 c]
  exact (pointsTo_union (disj2 c)).2
/-- The rows received and the rows held, together. -/
theorem joined4 (c : Dev nD) : iprop(cPts c (S1 c) (B3 P (prt 1 c)) ∗ cPts c (K1 c) (B3 P c)) ⊢ cPts c (K0 c) (B4 P c) := by
  have hr : (cPts c (S1 c) (B3 P (prt 1 c)) : sProp 𝕄) = cPts c (S1 c) (B4 P c) := pointsTo_congr fun i hi => (if_pos hi).symm
  have hk : (cPts c (K1 c) (B3 P c) : sProp 𝕄) = cPts c (K1 c) (B4 P c) :=
    pointsTo_congr fun i hi => (if_neg fun h => Finset.disjoint_left.mp (disj1 c) h hi).symm
  rw [hr, hk, split1 c]
  exact (pointsTo_union (disj1 c)).2
/-- The rows received and the rows held, together. -/
theorem joined5 (c : Dev nD) : iprop(cPts c (S0 c) (B4 P (prt 0 c)) ∗ cPts c (K0 c) (B4 P c)) ⊢ cPts c (Finset.univ) (B5 P c) := by
  have hr : (cPts c (S0 c) (B4 P (prt 0 c)) : sProp 𝕄) = cPts c (S0 c) (B5 P c) := pointsTo_congr fun i hi => (if_pos hi).symm
  have hk : (cPts c (K0 c) (B4 P c) : sProp 𝕄) = cPts c (K0 c) (B5 P c) :=
    pointsTo_congr fun i hi => (if_neg fun h => Finset.disjoint_left.mp (disj0 c) h hi).symm
  rw [hr, hk, split0 c]
  exact (pointsTo_union (disj0 c)).2

end Cert.Attn
end
end
-- ==== Proof.Exchange.lean ====
/- The exchange, run: from each device's own contribution in its exchange buffer, through the six phases, to the
   gathered sum in every device's exchange buffer and its widened copy in the result. -/
module

public import proofs.«01_k».proof.Proof.Blocks

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Arr F)

/-- The exchange as printed: the kernel's last parts and its tail, the words the earlier parts hand on left open. -/
def exchProg (d0 : Dev nD) (v7 v9 v26 v29 v32 v33 v977 v982 v989 : BitVec 32) : Prog (TpuEff nD τ sig (Elt F) Λ₀ .tc) PUnit := do
  let ⟨v991, v1017, v1018⟩ : Σ' (v991 : BitVec 32) (v1017 : Vec F S1024x1024 .bf16), Vec F S1024x1024 .bf16 ← k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v7 v9 v26 v29 v977 v989
  let v1049 : FVec F S512x1024 .bf16 ← k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v32 v977 v982 v1017 v1018
  let v1078 : BitVec 32 ← k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v7 v9 v33 v991 v1049
  k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v7 v9 v26 v32 v33 v1078
  k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v29 v32
  let v1137 : Memref sig .tc .vmem S1024x1024 .bf16 := (Memref.whole cc0_scratch4).slice (Rect.unit (s := S2048x1024) (k0_off11 d0) S1024x1024.size (k0_off11_inb d0)) (fun _ => rfl)
  let v1138 : Memref sig .tc .vmem S1024x1024 .bf16 := (Memref.whole cc0_scratch4).slice (Rect.unit (s := S2048x1024) (k0_off11 d0) S1024x1024.size (k0_off11_inb d0)) (fun _ => rfl)
  let v1135 : DmaSems sig Cert.KernelIdeal.S1 := cc0_scratch8.slice (Rect.unit (s := S6) ![5] Cert.KernelIdeal.S1.size inb_S6_S1_5)
  let v1136 : DmaSems sig S_ := v1135.squeeze S_ squeezes_S1_S_
  Prog.lift (.waitDma2 v1136.sem v1138 v1137 ((Memref.isWhole_whole cc0_scratch4).wordExact_slice rfl _ (k0_off11_wordsbf16 d0)) ((Memref.isWhole_whole cc0_scratch4).wordExact_slice rfl _ (k0_off11_wordsbf16 d0)))
  let v1139 : Vec F S2048x1024 .bf16 ← Prog.lift (.load (Memref.whole cc0_scratch4) (Rect.unit (s := S2048x1024) ![0, 0] S2048x1024.size inb_S2048x1024_S2048x1024_0_0).toLoadRect (View.loadsAt_vmem h_S2048x1024))
  let v1141 : Vec F S2048x1024 .f32 ← Prog.lift (.load (Memref.whole cc0_stg3_0) (Rect.unit (s := S2048x1024) ![0, 0] S2048x1024.size inb_S2048x1024_S2048x1024_0_0).toLoadRect (View.loadsAt_vmem h_S2048x1024))
  Prog.lift (.store (Memref.whole cc0_stg3_0) (Rect.unit (s := S2048x1024) ![0, 0] S2048x1024.size inb_S2048x1024_S2048x1024_0_0) (k0_pay1 v1139) Finset.univ (View.stores_vmem_bits_univ h_S2048x1024 rfl) (.inl rfl))
  pure ⟨⟩

/-! ## The semaphores of the two arrays, by phase -/

theorem send_sem0 : ((cc0_scratch7.slice (Rect.unit (s := S6) ![0] ![1] inb_S6_S1_0)).squeeze S_ squeezes_S1_S_).sem = sS 0 := rfl
theorem send_sem1 : ((cc0_scratch7.slice (Rect.unit (s := S6) ![1] ![1] inb_S6_S1_1)).squeeze S_ squeezes_S1_S_).sem = sS 1 := rfl
theorem send_sem2 : ((cc0_scratch7.slice (Rect.unit (s := S6) ![2] ![1] inb_S6_S1_2)).squeeze S_ squeezes_S1_S_).sem = sS 2 := rfl
theorem send_sem3 : ((cc0_scratch7.slice (Rect.unit (s := S6) ![3] ![1] inb_S6_S1_3)).squeeze S_ squeezes_S1_S_).sem = sS 3 := rfl
theorem send_sem4 : ((cc0_scratch7.slice (Rect.unit (s := S6) ![4] ![1] inb_S6_S1_4)).squeeze S_ squeezes_S1_S_).sem = sS 4 := rfl
theorem send_sem5 : ((cc0_scratch7.slice (Rect.unit (s := S6) ![5] ![1] inb_S6_S1_5)).squeeze S_ squeezes_S1_S_).sem = sS 5 := rfl
theorem recv_sem0 : ((cc0_scratch8.slice (Rect.unit (s := S6) ![0] ![1] inb_S6_S1_0)).squeeze S_ squeezes_S1_S_).sem = rS 0 := rfl
theorem recv_sem1 : ((cc0_scratch8.slice (Rect.unit (s := S6) ![1] ![1] inb_S6_S1_1)).squeeze S_ squeezes_S1_S_).sem = rS 1 := rfl
theorem recv_sem2 : ((cc0_scratch8.slice (Rect.unit (s := S6) ![2] ![1] inb_S6_S1_2)).squeeze S_ squeezes_S1_S_).sem = rS 2 := rfl
theorem recv_sem3 : ((cc0_scratch8.slice (Rect.unit (s := S6) ![3] ![1] inb_S6_S1_3)).squeeze S_ squeezes_S1_S_).sem = rS 3 := rfl
theorem recv_sem4 : ((cc0_scratch8.slice (Rect.unit (s := S6) ![4] ![1] inb_S6_S1_4)).squeeze S_ squeezes_S1_S_).sem = rS 4 := rfl
theorem recv_sem5 : ((cc0_scratch8.slice (Rect.unit (s := S6) ![5] ![1] inb_S6_S1_5)).squeeze S_ squeezes_S1_S_).sem = rS 5 := rfl

/-! ## Loads and stores of rows held -/

theorem load_c (c : Dev nD) {I : Finset S2048x1024.Idx} {f : Arr F} {α : Type} {Q : α → sProp 𝕄} {r : Rect S2048x1024} (h : (cM.access r).set ⊆ I) {hl : cM.view.LoadsAt r}
    {k : (r.shape.Idx → Elt F .bf16) → Prog (TpuEff nD τ sig (Elt F) Λ₀ .tc) α} :
    cPts c I f ⊢ iprop((cPts c I f -∗ wp frame (wpE (defs₀ (F := F)) 𝒱₀ (c : Thread nD τ) none) Set.univ (k ((cM.access r).read (Elt F) f)) Q)
      -∗ wp frame (wpE (defs₀ (F := F)) 𝒱₀ (c : Thread nD τ) none) Set.univ (.op (.load cM r.toLoadRect hl) k) Q) :=
  wp_load_rect 𝒱₀ (c : Thread nD τ) none Set.univ (m := cM) (r := r) h
theorem load_l (c : Dev nD) {J : Finset S1792x1024.Idx} {g : FVec F S1792x1024 .bf16} {α : Type} {Q : α → sProp 𝕄} {r : Rect S1792x1024} (h : (lM.access r).set ⊆ J) {hl : lM.view.LoadsAt r}
    {k : (r.shape.Idx → Elt F .bf16) → Prog (TpuEff nD τ sig (Elt F) Λ₀ .tc) α} :
    lPts c J g ⊢ iprop((lPts c J g -∗ wp frame (wpE (defs₀ (F := F)) 𝒱₀ (c : Thread nD τ) none) Set.univ (k ((lM.access r).read (Elt F) g)) Q)
      -∗ wp frame (wpE (defs₀ (F := F)) 𝒱₀ (c : Thread nD τ) none) Set.univ (.op (.load lM r.toLoadRect hl) k) Q) :=
  wp_load_rect 𝒱₀ (c : Thread nD τ) none Set.univ (m := lM) (r := r) h
theorem store_c (c : Dev nD) {I : Finset S2048x1024.Idx} {f : Arr F} {α : Type} {Q : α → sProp 𝕄} {r : Rect S2048x1024} {w : r.shape.Idx → Elt F .bf16} (h : (cM.access r).set ⊆ I) {hx : (cM.access r).Stores Finset.univ}
    {hm : (Finset.univ : Finset r.shape.Idx) = Finset.univ ∨ ∀ a, r.stride a = 1} {k : PUnit → Prog (TpuEff nD τ sig (Elt F) Λ₀ .tc) α} :
    cPts c I f ⊢ iprop((cPts c I ((cM.access r).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store cM r w Finset.univ hx hm) k) Q) :=
  wp_store 𝒱₀ (c : Thread nD τ) none Set.univ (m := cM) (r := r) (Mk := Finset.univ) h

/-! ## The run -/

/-- The result's buffer on device `c`. -/
abbrev oPts (c : Dev nD) (f : FVec F S2048x1024 .f32) : sProp 𝕄 := (Memref.whole cc0_stg3_0).view.loc (c : Thread nD τ) ↦{fullShare} f
abbrev rFull : Rect S2048x1024 := Rect.unit (s := S2048x1024) ![0, 0] S2048x1024.size inb_S2048x1024_S2048x1024_0_0
theorem zero_off : (![0, 0] : Fin 2 → ℕ) = fun _ => 0 := funext fun a => by fin_cases a <;> rfl

variable (κ : GSem nD τ sig → ℕ)

def exchPre (c : Dev nD) : sProp 𝕄 :=
  iprop(records P κ ∗ levAts L lv ∗ cPts c Finset.univ (P c) ∗ (barPay c 0 ∗ barPay c 1 ∗ barPay c 2) ∗ owing c 6
    ∗ (gear 0 c ∗ gear 1 c ∗ gear 2 c ∗ gear 3 c ∗ gear 4 c ∗ gear 5 c) ∗ ∃ f, oPts c f)

def zeros (k : Fin 6) (c : Dev nD) : sProp 𝕄 := iprop(semVal (scell k c) 0 ∗ semVal (rcell k c) 0)

def exchPost (c : Dev nD) : sProp 𝕄 :=
  iprop(cPts c Finset.univ (B5 P c) ∗ (∃ f, lPts c Finset.univ f) ∗ owing c 0
    ∗ (zeros 0 c ∗ zeros 1 c ∗ zeros 2 c ∗ zeros 3 c ∗ zeros 4 c ∗ zeros 5 c) ∗ oPts c (k0_pay1 (B5 P c)))

/-! What the phases leave, spelt out. -/

theorem done_rs0 (c : Dev nD) : done P 0 c = iprop(zeros 0 c ∗ emp ∗ (∃ f, lPts c (lrows 0 1024) (land0 f (prt 0 c) (P (prt 0 c))))
    ∗ cPts (prt 0 c) (K0 c) (P (prt 0 c))) := rfl
theorem done_rs1 (c : Dev nD) : done P 1 c = iprop(zeros 1 c ∗ emp ∗ (∃ f, lPts c (lrows 1024 512) (land1 f (prt 1 c) (A1 P (prt 1 c))))
    ∗ cPts (prt 1 c) (K1 c) (A1 P (prt 1 c))) := rfl
theorem done_rs2 (c : Dev nD) : done P 2 c = iprop(zeros 2 c ∗ emp ∗ (∃ f, lPts c (lrows 1536 256) (land2 f (prt 2 c) (A2 P (prt 2 c))))
    ∗ cPts (prt 2 c) (K2 c) (A2 P (prt 2 c))) := rfl
theorem done_ag3 (c : Dev nD) : done P 3 c = iprop(zeros 3 c ∗ cPts c (K2 c) (A3 P c) ∗ cPts c (S2 c) (A3 P (prt 2 c))) := rfl
theorem done_ag4 (c : Dev nD) : done P 4 c = iprop(zeros 4 c ∗ cPts c (K1 c) (B3 P c) ∗ cPts c (S1 c) (B3 P (prt 1 c))) := rfl
theorem done_ag5 (c : Dev nD) : done P 5 c = iprop(zeros 5 c ∗ cPts c (K0 c) (B4 P c) ∗ cPts c (S0 c) (B4 P (prt 0 c))) := rfl

/-- The widened copy of the whole buffer, stored over the whole result. -/
theorem full_written (fo : FVec F S2048x1024 .f32) (A : Arr F) :
    ((Memref.whole cc0_stg3_0 : Memref sig .tc .vmem S2048x1024 .f32).access rFull).write (Elt F) fo (k0_pay1 ((cM.access rFull).read (Elt F) A)) Finset.univ = k0_pay1 A := by
  rw [show (cM.access rFull).read (Elt F) A = A from Memref.read_access_unit_zero (Elt F) cc0_scratch4 zero_off _ A]
  exact Memref.write_access_unit_zero_univ (Elt F) cc0_stg3_0 zero_off _ fo _

theorem lPts_join (c : Dev nD) {I J : Finset S1792x1024.Idx} (f g : FVec F S1792x1024 .bf16) (h : Disjoint I J) :
    iprop(lPts c I f ∗ lPts c J g) ⊢ lPts c (I ∪ J) (J.piecewise g f) := pointsTo_join (ℓ := lM.view.loc (c : Thread nD τ)) h

/-- The landing buffer whole again, from its three slots. -/
theorem slots_joined (c : Dev nD) (f g h : FVec F S1792x1024 .bf16) :
    iprop(lPts c (lrows 0 1024) f ∗ lPts c (lrows 1024 512) g ∗ lPts c (lrows 1536 256) h) ⊢ iprop(∃ f, lPts c Finset.univ f) := by
  iintro ⟨H0, H1, H2⟩
  ihave H12 := (lPts_join c g h slots_disj1) $$ [H1 H2]
  · isplitl [H1] <;> iassumption
  ihave H := (lPts_join c f _ slots_disj0) $$ [H0 H12]
  · isplitl [H0] <;> iassumption
  iexists _
  rw [slots_split]
  iexact H

set_option maxHeartbeats 400000 in
theorem exch_run (c : Dev nD) (v7 v9 v26 v29 v32 v33 v977 v982 v989 : BitVec 32) (Q : PUnit → sProp 𝕄) :
    iprop(exchPre P κ c ∗ (exchPost P c -∗ Q ⟨⟩))
      ⊢ wp frame (wpE (defs₀ (F := F)) 𝒱₀ (c : Thread nD τ) none) Set.univ (exchProg c v7 v9 v26 v29 v32 v33 v977 v982 v989) Q := by
  unfold exchProg
  simp only [k0_part27_eq_skeleton, k0_part28_eq_skeleton, k0_part29_eq_skeleton, k0_part30_eq_skeleton, k0_part31_eq_skeleton]
  unfold k0_part27_skel k0_part28_skel k0_part29_skel k0_part30_skel k0_part31_skel
  simp only [Prog.lift, Prog.bind_op, Prog.bind_ret, Prog.pure_eq_ret, Prog.bind_assoc]
  simp only [send_sem0, send_sem1, send_sem2, send_sem3, send_sem4, send_sem5, recv_sem0, recv_sem1, recv_sem2, recv_sem3, recv_sem4, recv_sem5]
  unfold exchPre barPay
  dsimp only
  iintro ⟨⟨#HR, #HL, Hc, ⟨⟨⟨%f0, Hl0⟩, #Hr0, #Hr5⟩, ⟨⟨%f1, Hl1⟩, #Hr1, #Hr4⟩, ⟨%f2, Hl2⟩, #Hr2, #Hr3⟩, HO, ⟨G0, G1, G2, G3, G4, G5⟩, ⟨%fo, Ho⟩⟩, Hk⟩
  -- phase 0
  ihave Hc' := (Entails.of_eq (congrArg (fun I => (cPts c I (P c) : sProp 𝕄)) (split0 c))) $$ Hc
  ihave Hc'' := (pointsTo_union (disj0 c)).1 $$ Hc'
  icases Hc'' with ⟨Hs, Hkeep⟩
  ihave Hs' := (Entails.of_eq (s0_pts c c (P c)).symm) $$ Hs
  ihave Hl0' := (Entails.of_eq (slot0_pts (prt 0 c) f0).symm) $$ Hl0
  iapply (phase_scatter P κ (src := s0 c) (dst := slot0) (x := slot0) (y := s0 c) (x' := s0 c) (y' := slot0) (fs := P c) (fd := f0) 0 5 rfl (dev4_eq c) rfl rfl rfl rfl (by rw [dev4_eq c]; exact scatter0 P c f0)) $$ [Hs' Hl0' HO G0]
  · isplitr; · iexact HR
    isplitr; · iexact HL
    isplitl [Hs']; · iexact Hs'
    isplitl [Hl0']; · iexact Hl0'
    isplitl [HO]; · iexact HO
    isplitl [G0]; · iexact G0
    iexact Hr0
  iintro ⟨HO, D0⟩
  ihave D0' := (Entails.of_eq (done_rs0 P c)) $$ D0
  icases D0' with ⟨Z0, -, ⟨%g0, Hl0⟩, Hp0⟩
  iapply (load_c c (r := r4 c) (r4_set c).subset) $$ Hkeep; iintro Hkeep
  iapply (load_l c (r := q0) (slot0_set.subset)) $$ Hl0; iintro Hl0
  iapply (load_c c (r := r4 c) (r4_set c).subset) $$ Hkeep; iintro Hkeep
  iapply (store_c c (r := r4 c) (r4_set c).subset) $$ Hkeep; iintro Hkeep
  ihave Hkeep := (Entails.of_eq (pointsTo_congr (keep0 P c (P c) g0))) $$ Hkeep
  -- phase 1
  ihave Hc' := (Entails.of_eq (congrArg (fun I => (cPts c I (A1 P c) : sProp 𝕄)) (split1 c))) $$ Hkeep
  ihave Hc'' := (pointsTo_union (disj1 c)).1 $$ Hc'
  icases Hc'' with ⟨Hs, Hkeep⟩
  ihave Hs' := (Entails.of_eq (s1_pts c c (A1 P c)).symm) $$ Hs
  ihave Hl1' := (Entails.of_eq (slot1_pts (prt 1 c) f1).symm) $$ Hl1
  iapply (phase_scatter P κ (src := s1 c) (dst := slot1) (x := slot1) (y := s1 c) (x' := s1 c) (y' := slot1) (fs := A1 P c) (fd := f1) 1 4 rfl (dev5_eq c) rfl rfl rfl rfl (by rw [dev5_eq c]; exact scatter1 P c f1)) $$ [Hs' Hl1' HO G1]
  · isplitr; · iexact HR
    isplitr; · iexact HL
    isplitl [Hs']; · iexact Hs'
    isplitl [Hl1']; · iexact Hl1'
    isplitl [HO]; · iexact HO
    isplitl [G1]; · iexact G1
    iexact Hr1
  iintro ⟨HO, D1⟩
  ihave D1' := (Entails.of_eq (done_rs1 P c)) $$ D1
  icases D1' with ⟨Z1, -, ⟨%g1, Hl1⟩, Hp1⟩
  iapply (load_c c (r := r6 c) (r6_set c).subset) $$ Hkeep; iintro Hkeep
  iapply (load_l c (r := q1) (slot1_set.subset)) $$ Hl1; iintro Hl1
  iapply (load_c c (r := r6 c) (r6_set c).subset) $$ Hkeep; iintro Hkeep
  iapply (store_c c (r := r6 c) (r6_set c).subset) $$ Hkeep; iintro Hkeep
  ihave Hkeep := (Entails.of_eq (pointsTo_congr (keep1 P c (A1 P c) g1))) $$ Hkeep
  -- phase 2
  ihave Hc' := (Entails.of_eq (congrArg (fun I => (cPts c I (A2 P c) : sProp 𝕄)) (split2 c))) $$ Hkeep
  ihave Hc'' := (pointsTo_union (disj2 c)).1 $$ Hc'
  icases Hc'' with ⟨Hs, Hkeep⟩
  ihave Hs' := (Entails.of_eq (s2_pts c c (A2 P c)).symm) $$ Hs
  ihave Hl2' := (Entails.of_eq (slot2_pts (prt 2 c) f2).symm) $$ Hl2
  iapply (phase_scatter P κ (src := s2 c) (dst := slot2) (x := slot2) (y := s2 c) (x' := s2 c) (y' := slot2) (fs := A2 P c) (fd := f2) 2 3 rfl (dev6_eq c) rfl rfl rfl rfl (by rw [dev6_eq c]; exact scatter2 P c f2)) $$ [Hs' Hl2' HO G2]
  · isplitr; · iexact HR
    isplitr; · iexact HL
    isplitl [Hs']; · iexact Hs'
    isplitl [Hl2']; · iexact Hl2'
    isplitl [HO]; · iexact HO
    isplitl [G2]; · iexact G2
    iexact Hr2
  iintro ⟨HO, D2⟩
  ihave D2' := (Entails.of_eq (done_rs2 P c)) $$ D2
  icases D2' with ⟨Z2, -, ⟨%g2, Hl2⟩, Hp2⟩
  iapply (load_c c (r := r8 c) (r8_set c).subset) $$ Hkeep; iintro Hkeep
  iapply (load_l c (r := q2) (slot2_set.subset)) $$ Hl2; iintro Hl2
  iapply (load_c c (r := r8 c) (r8_set c).subset) $$ Hkeep; iintro Hkeep
  iapply (store_c c (r := r8 c) (r8_set c).subset) $$ Hkeep; iintro Hkeep
  ihave Hkeep := (Entails.of_eq (pointsTo_congr (keep2 P c (A2 P c) g2))) $$ Hkeep
  -- phase 3
  ihave Hs' := (Entails.of_eq (g3_pts c c (A3 P c)).symm) $$ Hkeep
  ihave Hd' := (Entails.of_eq (g3_pts c (prt 2 c) (A2 P (prt 2 c))).symm) $$ Hp2
  iapply (phase_gather P κ (src := g3 c) (dst := g3 c) (x := g3 c) (y := g3 c) (x' := g3 c) (y' := g3 c) (fs := A3 P c) (fd := A2 P (prt 2 c)) 3 2 rfl (dev7_eq c) rfl rfl rfl (back3 P c) (by rw [dev7_eq c]; exact gather3 P c _)) $$ [Hs' Hd' HO G3]
  · isplitr; · iexact HR
    isplitr; · iexact HL
    isplitl [Hs']; · iexact Hs'
    isplitl [Hd']; · iexact Hd'
    isplitl [HO]; · iexact HO
    isplitl [G3]; · iexact G3
    iexact Hr3
  iintro ⟨HO, D3⟩
  ihave D3' := (Entails.of_eq (done_ag3 P c)) $$ D3
  icases D3' with ⟨Z3, Hb, Hg⟩
  ihave Hkeep := (joined3 P c) $$ [Hg Hb]
  · isplitl [Hg] <;> iassumption
  -- phase 4
  ihave Hs' := (Entails.of_eq (g4_pts c c (B3 P c)).symm) $$ Hkeep
  ihave Hd' := (Entails.of_eq (g4_pts c (prt 1 c) (A1 P (prt 1 c))).symm) $$ Hp1
  iapply (phase_gather P κ (src := g4 c) (dst := g4 c) (x := g4 c) (y := g4 c) (x' := g4 c) (y' := g4 c) (fs := B3 P c) (fd := A1 P (prt 1 c)) 4 1 rfl (dev8_eq c) rfl rfl rfl (back4 P c) (by rw [dev8_eq c]; exact gather4 P c _)) $$ [Hs' Hd' HO G4]
  · isplitr; · iexact HR
    isplitr; · iexact HL
    isplitl [Hs']; · iexact Hs'
    isplitl [Hd']; · iexact Hd'
    isplitl [HO]; · iexact HO
    isplitl [G4]; · iexact G4
    iexact Hr4
  iintro ⟨HO, D4⟩
  ihave D4' := (Entails.of_eq (done_ag4 P c)) $$ D4
  icases D4' with ⟨Z4, Hb, Hg⟩
  ihave Hkeep := (joined4 P c) $$ [Hg Hb]
  · isplitl [Hg] <;> iassumption
  -- phase 5
  ihave Hs' := (Entails.of_eq (g5_pts c c (B4 P c)).symm) $$ Hkeep
  ihave Hd' := (Entails.of_eq (g5_pts c (prt 0 c) (P (prt 0 c))).symm) $$ Hp0
  iapply (phase_gather P κ (src := g5 c) (dst := g5 c) (x := g5 c) (y := g5 c) (x' := g5 c) (y' := g5 c) (fs := B4 P c) (fd := P (prt 0 c)) 5 0 rfl (dev9_eq c) rfl rfl rfl (back5 P c) (by rw [dev9_eq c]; exact gather5 P c _)) $$ [Hs' Hd' HO G5]
  · isplitr; · iexact HR
    isplitr; · iexact HL
    isplitl [Hs']; · iexact Hs'
    isplitl [Hd']; · iexact Hd'
    isplitl [HO]; · iexact HO
    isplitl [G5]; · iexact G5
    iexact Hr5
  iintro ⟨HO, D5⟩
  ihave D5' := (Entails.of_eq (done_ag5 P c)) $$ D5
  icases D5' with ⟨Z5, Hb, Hg⟩
  ihave Hkeep := (joined5 P c) $$ [Hg Hb]
  · isplitl [Hg] <;> iassumption
  -- the widened copy
  iapply (load_c c (r := rFull) (Finset.subset_univ _)) $$ Hkeep; iintro Hkeep
  iapply (wp_load_rect 𝒱₀ (c : Thread nD τ) none Set.univ (m := Memref.whole cc0_stg3_0) (r := rFull) (Finset.subset_univ _)) $$ Ho; iintro Ho
  iapply (wp_store 𝒱₀ (c : Thread nD τ) none Set.univ (m := Memref.whole cc0_stg3_0) (r := rFull) (Mk := Finset.univ) (Finset.subset_univ _)) $$ Ho; iintro Ho
  rw [wp_ret]; imodintro
  iapply Hk
  unfold exchPost
  isplitl [Hkeep]; · iexact Hkeep
  isplitl [Hl0 Hl1 Hl2]
  · iapply (slots_joined c _ _ _)
    isplitl [Hl0]; · iexact Hl0
    isplitl [Hl1] <;> iassumption
  isplitl [HO]; · iexact HO
  isplitl [Z0 Z1 Z2 Z3 Z4 Z5]
  · isplitl [Z0]; · iexact Z0
    isplitl [Z1]; · iexact Z1
    isplitl [Z2]; · iexact Z2
    isplitl [Z3]; · iexact Z3
    isplitl [Z4] <;> iassumption
  iapply (Entails.of_eq (congrArg (oPts c) (full_written _ _)))
  iexact Ho

end Cert.Attn
end
end
-- ==== Proof.Front.lean ====
/- The kernel up to the exchange: the query projection, the windowed attention of the eight heads and the product with
   this device's rows of the output weights, as printed, the rest of the kernel left open. -/
module

public import proofs.«01_k».proof.Proof.Exchange

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The first two parts as printed: the two copies of the weights started, the barrier, the query projection; then `k`. -/
def frontProg {α : Type} (k : Dev nD → (v7 v9 v26 v29 v32 v33 : BitVec 32) → IVec S512x1024 32 → Prog (TpuEff nD τ sig (Elt F) Λ₀ .tc) α) :
    Prog (TpuEff nD τ sig (Elt F) Λ₀ .tc) α := do
  let ⟨d0, v2, v7, v9, v26, v29, v32, v33⟩ : Σ' (d0 : Dev nD) (v2 : BitVec 32) (v7 : BitVec 32) (v9 : BitVec 32) (v26 : BitVec 32) (v29 : BitVec 32) (v32 : BitVec 32), BitVec 32 ← k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8
  let v62 : IVec S512x1024 32 ← k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v2 v29 v32 v33
  k d0 v7 v9 v26 v29 v32 v33 v62

/-- The parts that compute the attention and the output product, as printed; then `k`. -/
def tilesProg {α : Type} (d0 : Dev nD) (v7 v9 : BitVec 32) (v62 : IVec S512x1024 32)
    (k : (v977 v982 v989 : BitVec 32) → Prog (TpuEff nD τ sig (Elt F) Λ₀ .tc) α) :
    Prog (TpuEff nD τ sig (Elt F) Λ₀ .tc) α := do
  let ⟨v71, v99, v100⟩ : Σ' (v71 : IVec S512x1024 1) (v99 : Vec F S512x128 .bf16), Vec F S1024x128 .f32 ← k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v62
  let ⟨v132, v137, v139⟩ : Σ' (v132 : FVec F S1024x128 .bf16) (v137 : FVec F S512x1024 .f32), FVec F S512x1 .f32 ← k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v71 v99 v100
  k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v71 v132 v137 v139
  let ⟨v213, v216⟩ : Σ' (v213 : FVec F S1024x128 .bf16), FVec F S512x1024 .f32 ← k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v71
  let v257 : FVec F S512x128 .bf16 ← k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v71 v213 v216
  let ⟨v295, v296⟩ : Σ' (v295 : IVec S512x1024 32), IVec S512x1024 32 ← k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v71 v257
  let ⟨v297, v331, v332, v333⟩ : Σ' (v297 : IVec S512x1024 1) (v331 : FVec F S1024x128 .bf16) (v332 : FVec F S512x1024 .f32), FVec F S512x1024 .f32 ← k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v295 v296
  let v374 : FVec F S512x128 .f32 ← k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v297 v331 v332 v333
  let ⟨v406, v409, v410⟩ : Σ' (v406 : Vec F S512x128 .bf16) (v409 : FVec F S1024x128 .bf16), Vec F S1024x128 .f32 ← k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v297 v374
  let ⟨v439, v449, v450⟩ : Σ' (v439 : FVec F S1024x128 .bf16) (v449 : FVec F S512x1024 .f32), FVec F S512 .f32 ← k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v297 v406 v409 v410
  let v487 : Vec F S512x128 .bf16 ← k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v297 v439 v449 v450
  let ⟨v523, v524, v527⟩ : Σ' (v523 : IVec S512x1024 1) (v524 : Vec F S512x128 .bf16), FVec F S1024x128 .bf16 ← k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v297 v487
  let ⟨v557, v567⟩ : Σ' (v557 : FVec F S1024x128 .bf16), FVec F S512x1024 .f32 ← k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v524 v527
  let v605 : Vec F S512x128 .bf16 ← k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v557 v567
  let ⟨v638, v643⟩ : Σ' (v638 : FVec F S1024x128 .bf16), FVec F S512x1024 .f32 ← k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v605
  let v682 : FVec F S512x128 .bf16 ← k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v638 v643
  let ⟨v719, v720, cst_364⟩ : Σ' (v719 : FVec F S1024x128 .bf16) (v720 : FVec F S512x1024 .f32), F .f32 ← k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v682
  let ⟨v749, v756, v761⟩ : Σ' (v749 : IVec S512x1024 1) (v756 : FVec F S1024x128 .bf16), FVec F S512x1024 .f32 ← k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v523 v719 v720 cst_364
  let ⟨v800, v801⟩ : Σ' (v800 : FVec F S512x128 .bf16), Vec F S512x128 .bf16 ← k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v749 v756 v761
  let ⟨v837, v838⟩ : Σ' (v837 : FVec F S1024x128 .bf16), FVec F S512x1024 .f32 ← k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v749 v800 v801
  let ⟨v864, v879⟩ : Σ' (v864 : FVec F S1024x128 .bf16), FVec F S512x1024 .bf16 ← k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v749 v837 v838
  let ⟨v912, v915⟩ : Σ' (v912 : Vec F S512x128 .bf16), FVec F S1024x128 .bf16 ← k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v749 v864 v879
  let ⟨v945, v955⟩ : Σ' (v945 : FVec F S1024x128 .bf16), FVec F S512x1024 .f32 ← k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 v749 v912 v915
  let ⟨v977, v982, v989⟩ : Σ' (v977 : BitVec 32) (v982 : BitVec 32), BitVec 32 ← k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 d0 v7 v9 v945 v955
  k v977 v982 v989

/-- The body at the buffers the launch gives it. -/
abbrev bodyProg : Prog (TpuEff nD τ sig (Elt F) Λ₀ .tc) PUnit :=
  cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8

set_option maxRecDepth 65536 in
theorem body_eq : bodyProg (F := F) = frontProg fun d0 v7 v9 v26 v29 v32 v33 v62 =>
    tilesProg d0 v7 v9 v62 fun v977 v982 v989 => exchProg d0 v7 v9 v26 v29 v32 v33 v977 v982 v989 := rfl

end Cert.Attn
end
end
-- ==== Proof.Contents.lean ====
/- What the kernel computes before the exchange, as functions of the arguments: the query projection, one attention tile
   per query block and head, the context put together from the tiles, and the device's share of the output product. -/
module

public import proofs.«01_k».proof.Proof.Schedule
public import Idealize.ShloMosaic.Lib.VecWindow

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic (View)

/-- The columns of the query weights that device `c` copies in. -/
def wqCols (c : Dev nD) (wq : FVec F S1024x8192 .f32) : FVec F S1024x1024 .f32 := fun i =>
  wq ((Rect.unit (s := S1024x8192) (k0_off1 c) S1024x1024.size (fun a => k0_off1_inb c a)).idx i)

/-- The rows of the output weights that device `c` copies in. -/
def woRows (c : Dev nD) (wo : FVec F S8192x1024 .f32) : FVec F S1024x1024 .f32 := fun i =>
  wo ((Rect.unit (s := S8192x1024) (k0_off2 c) S1024x1024.size (fun a => k0_off2_inb c a)).idx i)

/-- The mask of a tile whose queries start at row `r0` and whose keys start at row `kw`. -/
def maskOf (r0 kw : BitVec 32) : IVec S512x1024 1 :=
  cmpi .sle (absi (subi (addi (broadcast S512x1024 r0) (iota .tc S512x1024 32 [0] iota_S512x1024_d0_w32))
    (addi (broadcast S512x1024 kw) (iota .tc S512x1024 32 [1] iota_S512x1024_d1_w32)))) (broadcast S512x1024 128#32)

/-- First key row of query block `b`'s window. -/
def kwOf (b : Fin 4) : Nat := ![0, 256, 768, 1024] b
/-- The query block's first row. -/
def r0Of (b : Fin 4) : Nat := ![0, 512, 1024, 1536] b
/-- A head's first column. -/
def hcOf (h : Fin 8) : Nat := ![0, 128, 256, 384, 512, 640, 768, 896] h

theorem qInb (b : Fin 4) (h : Fin 8) : ∀ a, (![r0Of b, hcOf h] : Fin 2 → Nat) a + S512x128.size a ≤ S2048x1024.size a := by
  revert b h; decide
theorem kInb (b : Fin 4) (h : Fin 8) : ∀ a, (![kwOf b, hcOf h] : Fin 2 → Nat) a + S1024x128.size a ≤ S2048x1024.size a := by
  revert b h; decide
/-- The rectangle of a query tile, -/
abbrev qRect (b : Fin 4) (h : Fin 8) : Rect S2048x1024 := Rect.unit (s := S2048x1024) ![r0Of b, hcOf h] S512x128.size (qInb b h)
/-- and of its keys and values. -/
abbrev kRect (b : Fin 4) (h : Fin 8) : Rect S2048x1024 := Rect.unit (s := S2048x1024) ![kwOf b, hcOf h] S1024x128.size (kInb b h)

/-- The mask of query block `b`. -/
abbrev maskAt (b : Fin 4) : IVec S512x1024 1 := maskOf (BitVec.ofNat 32 (r0Of b)) (BitVec.ofNat 32 (kwOf b))

/-- One tile of the context. -/
def tile (b : Fin 4) (h : Fin 8) (q : FVec F S2048x1024 .bf16) (kk vv : FVec F S2048x1024 .f32) : FVec F S512x128 .bf16 :=
  k0_pay5 (maskAt b) (fun i => q ((qRect b h).idx i)) (fun i => kk ((kRect b h).idx i)) (fun i => vv ((kRect b h).idx i))

/-- The query block and the head an entry of the context belongs to, and its place in the tile. -/
def blockOf (y : S2048x1024.Idx) : Fin 4 := ⟨(y 0).val / 512, by have := (y 0).isLt; change (y 0).val < 2048 at this; omega⟩
def headOf (y : S2048x1024.Idx) : Fin 8 := ⟨(y 1).val / 128, by have := (y 1).isLt; change (y 1).val < 1024 at this; omega⟩
def inTile (y : S2048x1024.Idx) : S512x128.Idx
  | ⟨0, _⟩ => ⟨(y 0).val % 512, Nat.mod_lt _ (by decide)⟩
  | ⟨1, _⟩ => ⟨(y 1).val % 128, Nat.mod_lt _ (by decide)⟩

/-- The context of device `c`'s heads. -/
def ctxOf (q : FVec F S2048x1024 .bf16) (kk vv : FVec F S2048x1024 .f32) : FVec F S2048x1024 .bf16 := fun y =>
  tile (blockOf y) (headOf y) q kk vv (inTile y)

theorem r0Of_eq (b : Fin 4) : r0Of b = 512 * b.val := by revert b; decide
theorem hcOf_eq (h : Fin 8) : hcOf h = 128 * h.val := by revert h; decide

theorem qRect_idx0 (b : Fin 4) (h : Fin 8) (j : S512x128.Idx) : ((qRect b h).idx j 0).val = 512 * b.val + (j 0).val := by
  show r0Of b + 1 * (j 0).val = _; rw [r0Of_eq]; omega
theorem qRect_idx1 (b : Fin 4) (h : Fin 8) (j : S512x128.Idx) : ((qRect b h).idx j 1).val = 128 * h.val + (j 1).val := by
  show hcOf h + 1 * (j 1).val = _; rw [hcOf_eq]; omega

/-- In a tile's rectangle the context is the tile. -/
theorem ctxOf_at (b : Fin 4) (h : Fin 8) (q : FVec F S2048x1024 .bf16) (kk vv : FVec F S2048x1024 .f32) (j : S512x128.Idx) :
    ctxOf q kk vv ((qRect b h).idx j) = tile b h q kk vv j := by
  have h0 := qRect_idx0 b h j
  have h1 := qRect_idx1 b h j
  have j0 : (j 0).val < 512 := (j 0).isLt
  have j1 : (j 1).val < 128 := (j 1).isLt
  have eb : blockOf ((qRect b h).idx j) = b := Fin.ext (by show ((qRect b h).idx j 0).val / 512 = _; omega)
  have eh : headOf ((qRect b h).idx j) = h := Fin.ext (by show ((qRect b h).idx j 1).val / 128 = _; omega)
  have ej : inTile ((qRect b h).idx j) = j := by
    funext a; fin_cases a
    · exact Fin.ext (by show ((qRect b h).idx j 0).val % 512 = (j 0).val; omega)
    · exact Fin.ext (by show ((qRect b h).idx j 1).val % 128 = (j 1).val; omega)
  unfold ctxOf
  rw [eb, eh, ej]

/-- Every entry lies in its tile's rectangle. -/
theorem mem_qRect (y : S2048x1024.Idx) : (qRect (blockOf y) (headOf y)).idx (inTile y) = y := by
  funext a; fin_cases a
  · refine Fin.ext ?_
    rw [show (⟨0, by decide⟩ : Fin 2) = 0 from rfl, qRect_idx0]; exact Nat.div_add_mod (y 0).val 512
  · refine Fin.ext ?_
    rw [show (⟨1, by decide⟩ : Fin 2) = 1 from rfl, qRect_idx1]; exact Nat.div_add_mod (y 1).val 128

/-- The queries device `c` projects. -/
def qOf (c : Dev nD) (x : FVec F S2048x1024 .f32) (wq : FVec F S1024x8192 .f32) : FVec F S2048x1024 .bf16 := k0_pay2 x (wqCols c wq)

/-- Device `c`'s share of the output product: what it brings to the exchange. -/
def shareOf (c : Dev nD) (x kk vv : FVec F S2048x1024 .f32) (wq : FVec F S1024x8192 .f32) (wo : FVec F S8192x1024 .f32) : FVec F S2048x1024 .bf16 :=
  k0_pay73 (ctxOf (qOf c x wq) kk vv) (woRows c wo)

/-- Pieces that each restrict one function leave that function, where they cover. -/
theorem canon_of_pieces {s : Shape} {e : EltTy} (G : s.Idx → Elt F e) : ∀ (L : List (View.Piece (Elt F) s e)),
    (∀ p ∈ L, ∀ j, p.2 j = G (p.1.idx j)) → ∀ y, (∃ p ∈ L, ∃ j, p.1.idx j = y) → View.canon L y = G y
  | [], _, _, hy => by obtain ⟨_, hm, _⟩ := hy; exact absurd hm List.not_mem_nil
  | p :: L, hG, y, hy => by
    by_cases hp : ∃ j, p.1.idx j = y
    · obtain ⟨j, rfl⟩ := hp
      exact (View.canon_cons_emb p.1 p.2 L j).trans (hG p (List.mem_cons_self ..) j)
    · have hn : y ∉ p.1.set := fun hm => hp (p.1.exists_idx_of_mem hm)
      rw [View.canon_cons_of_not_mem p L hn]
      refine canon_of_pieces G L (fun p' h' => hG p' (List.mem_cons_of_mem _ h')) y ?_
      obtain ⟨p', hm, hj⟩ := hy
      rcases List.mem_cons.mp hm with rfl | hm
      · exact absurd hj hp
      · exact ⟨p', hm, hj⟩

theorem zero_off2 : (![0, 0] : Fin 2 → Nat) = fun _ => 0 := by funext a; fin_cases a <;> rfl
theorem fullInb : ∀ a, (![0, 0] : Fin 2 → Nat) a + S2048x1024.size a ≤ S2048x1024.size a := by decide

/-- One piece as large as the array, loaded anywhere, reads its payload. -/
theorem readCov_q (w : FVec F S2048x1024 .bf16) (B : LoadRect S2048x1024) :
    (Memref.whole cc0_scratch2).view.readCov (Val := Elt F) [⟨Rect.unit (s := S2048x1024) ![0, 0] S2048x1024.size fullInb, w⟩] B
      = fun j => w (B.idx j) := by
  rw [View.readCov_eq_canon']
  funext j
  have := View.canon_cons_emb (Val := Elt F) (e := .bf16) (Rect.unit (s := S2048x1024) ![0, 0] S2048x1024.size fullInb) w [] (B.idx j)
  rw [show (Rect.unit (s := S2048x1024) ![0, 0] S2048x1024.size fullInb).emb (B.idx j) = B.idx j from
    funext fun a => Fin.ext (by
      show (![0, 0] : Fin 2 → Nat) a + 1 * (B.idx j a).val = _
      have : (![0, 0] : Fin 2 → Nat) a = 0 := congrFun zero_off2 a
      omega)] at this
  exact this

/-- A tile as the run reads its operands: the queries from the scratch they were stored to whole. -/
def tileRun (b : Fin 4) (h : Fin 8) (w : FVec F S2048x1024 .bf16) (kk vv : FVec F S2048x1024 .f32) : FVec F S512x128 .bf16 :=
  k0_pay5 (maskAt b)
    ((Memref.whole cc0_scratch2).view.readCov [⟨Rect.unit (s := S2048x1024) ![0, 0] S2048x1024.size fullInb, w⟩] (qRect b h).toLoadRect)
    ((Memref.whole cc0_stg1_0).view.readAt (Elt F) (kRect b h).toLoadRect kk)
    ((Memref.whole cc0_stg2_0).view.readAt (Elt F) (kRect b h).toLoadRect vv)

theorem tileRun_at (b : Fin 4) (h : Fin 8) {w q : FVec F S2048x1024 .bf16} (hw : w = q) (kk vv : FVec F S2048x1024 .f32) (j : S512x128.Idx) :
    tileRun b h w kk vv j = ctxOf q kk vv ((qRect b h).idx j) := by
  subst hw
  have ek : (Memref.whole cc0_stg1_0).view.readAt (Elt F) (kRect b h).toLoadRect kk = fun i => kk ((kRect b h).idx i) := rfl
  have ev : (Memref.whole cc0_stg2_0).view.readAt (Elt F) (kRect b h).toLoadRect vv = fun i => vv ((kRect b h).idx i) := rfl
  rw [ctxOf_at]
  unfold tileRun tile
  rw [readCov_q, ek, ev]
  rfl

/-- Pieces at the 32 tiles' rectangles, last tile first, cover. -/
theorem pieces_cover (L : List (View.Piece (Elt F) S2048x1024 .bf16))
    (hL : L.map Sigma.fst = ([3, 2, 1, 0] : List (Fin 4)).flatMap fun b => ([7, 6, 5, 4, 3, 2, 1, 0] : List (Fin 8)).map (qRect b)) (y : S2048x1024.Idx) :
    ∃ p ∈ L, ∃ j, p.1.idx j = y := by
  have hb : ∀ b : Fin 4, b ∈ ([3, 2, 1, 0] : List (Fin 4)) := by decide
  have hh : ∀ h : Fin 8, h ∈ ([7, 6, 5, 4, 3, 2, 1, 0] : List (Fin 8)) := by decide
  have hm : qRect (blockOf y) (headOf y) ∈ L.map Sigma.fst := by
    rw [hL]
    exact List.mem_flatMap.2 ⟨_, hb _, List.mem_map_of_mem (hh _)⟩
  obtain ⟨p, hp, e⟩ := List.mem_map.1 hm
  obtain ⟨r, w⟩ := p
  dsimp only at e
  subst e
  exact ⟨_, hp, inTile y, mem_qRect y⟩

/-- A whole buffer overwritten whole. -/
theorem writes_one {b : Ref sig .tc} {off : Fin b.ty.shape.rank → ℕ} (ho : off = fun _ => 0)
    (inb : ∀ a, off a + b.ty.shape.size a ≤ b.ty.shape.size a) (f w : b.ty.shape.Idx → Elt F b.ty.elt) :
    (Memref.whole b).view.writes (Elt F) f [⟨Rect.unit off b.ty.shape.size inb, w⟩] = w :=
  View.read_writes_full (Memref.whole b).view f inb w []

end Cert.Attn
end
end
-- ==== Proof.Body.lean ====
/- The kernel before the exchange, run on one device: the weights' copies, the barrier with the three partners, the query
   projection, the 32 attention tiles and the product with the output weights. -/
module

public import proofs.«01_k».proof.Proof.Front
public import proofs.«01_k».proof.Proof.Contents

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Arr F) (κ : GSem nD τ sig → ℕ)

/-- A whole buffer of device `c`, at contents `f`. -/
abbrev wPts {sp : Space} {s : Shape} {e : EltTy} (m : Memref sig .tc sp s e) (c : Dev nD) (f : Buf (Elt F) (m.view.loc (c : Thread nD τ))) : sProp 𝕄 :=
  m.view.loc (c : Thread nD τ) ↦{fullShare} f

theorem barPay_0 (c : Dev nD) : (barPay (prt 0 c) 0 : sProp 𝕄)
    = iprop((∃ f, lPts c (lrows 0 1024) f) ∗ reached ER (rcell 0 c) 0 ∗ reached ER (rcell 5 c) 0) := by
  show iprop((∃ f, lPts (prt 0 (prt 0 c)) (lrows 0 1024) f) ∗ reached ER (rcell 0 (prt 0 (prt 0 c))) 0 ∗ reached ER (rcell 5 (prt 0 (prt 0 c))) 0) = _
  rw [prt_prt]
theorem barPay_1 (c : Dev nD) : (barPay (prt 1 c) 1 : sProp 𝕄)
    = iprop((∃ f, lPts c (lrows 1024 512) f) ∗ reached ER (rcell 1 c) 0 ∗ reached ER (rcell 4 c) 0) := by
  show iprop((∃ f, lPts (prt 1 (prt 1 c)) (lrows 1024 512) f) ∗ reached ER (rcell 1 (prt 1 (prt 1 c))) 0 ∗ reached ER (rcell 4 (prt 1 (prt 1 c))) 0) = _
  rw [prt_prt]
theorem barPay_2 (c : Dev nD) : (barPay (prt 2 c) 2 : sProp 𝕄)
    = iprop((∃ f, lPts c (lrows 1536 256) f) ∗ reached ER (rcell 2 c) 0 ∗ reached ER (rcell 3 c) 0) := by
  show iprop((∃ f, lPts (prt 2 (prt 2 c)) (lrows 1536 256) f) ∗ reached ER (rcell 2 (prt 2 (prt 2 c))) 0 ∗ reached ER (rcell 3 (prt 2 (prt 2 c))) 0) = _
  rw [prt_prt]

/-- The partners the barrier's signals go to. -/
theorem dev1_eq (c : Dev nD) : (⟨k0_dev1 c, k0_dev1_lt c⟩ : Dev nD) = prt 0 c := by revert c; decide
theorem dev2_eq (c : Dev nD) : (⟨k0_dev2 c, k0_dev2_lt c⟩ : Dev nD) = prt 1 c := by revert c; decide
theorem dev3_eq (c : Dev nD) : (⟨k0_dev3 c, k0_dev3_lt c⟩ : Dev nD) = prt 2 c := by revert c; decide

/-- What device `c` brings to the barrier. -/
def barGear (c : Dev nD) : sProp 𝕄 :=
  iprop(atPos ER (bcell c) 0 ∅ 0 ∗ cred (tallyAt (bcell c) () 3)
    ∗ dutyTok ER (bcell (prt 0 c)) 0 (0 : Fin 3) ∗ dutyTok ER (bcell (prt 1 c)) 0 (1 : Fin 3) ∗ dutyTok ER (bcell (prt 2 c)) 0 (2 : Fin 3)
    ∗ (reached ER (rcell 0 c) 0 ∗ reached ER (rcell 1 c) 0 ∗ reached ER (rcell 2 c) 0 ∗ reached ER (rcell 3 c) 0 ∗ reached ER (rcell 4 c) 0 ∗ reached ER (rcell 5 c) 0)
    ∗ (∃ f, lPts c Finset.univ f) ∗ ∃ W, owes (c : Thread nD τ) (O₀ c) W)

/-- The landing buffer in its three slots. -/
theorem slots_cut (c : Dev nD) (f : FVec F S1792x1024 .bf16) :
    lPts c Finset.univ f ⊢ iprop(lPts c (lrows 0 1024) f ∗ lPts c (lrows 1024 512) f ∗ lPts c (lrows 1536 256) f) := by
  rw [slots_split]
  iintro H
  ihave H' := (pointsTo_union slots_disj0).1 $$ H
  icases H' with ⟨H0, H⟩
  ihave H' := (pointsTo_union slots_disj1).1 $$ H
  icases H' with ⟨H1, H2⟩
  isplitl [H0]; · iexact H0
  isplitl [H1] <;> iassumption

abbrev s4 : SemLoc sig := .dma (4 : Fin 18)
abbrev s5 : SemLoc sig := .dma (5 : Fin 18)
theorem lv_low (c : Dev nD) (q : Fin 18) (h : q.val < 12) (O : CellTallies nD τ sig Unit) (hO : O = owe c 6) :
    (levAts L lv : sProp 𝕄) ⊢ MayWait (c : Thread nD τ) (.dma q) () O :=
  hO ▸ mayWait_owe c (.dma q) 6 (by decide) (by unfold lv; dsimp only; rw [if_neg (by omega)]; exact Nat.zero_le _)

/-- What device `c` holds when it reaches the exchange. -/
def compPost (c : Dev nD) (x kk vv : FVec F S2048x1024 .f32) (wq : FVec F S1024x8192 .f32) (wo : FVec F S8192x1024 .f32) : sProp 𝕄 :=
  iprop((wPts (Memref.whole cc0_stg0_0) c x ∗ wPts (Memref.whole cc0_stg1_0) c kk ∗ wPts (Memref.whole cc0_stg2_0) c vv
      ∗ wPts (Memref.whole main_arg1) c wq ∗ wPts (Memref.whole main_arg4) c wo)
    ∗ ((∃ f, wPts (Memref.whole cc0_scratch0) c f) ∗ (∃ f, wPts (Memref.whole cc0_scratch1) c f) ∗ (∃ f, wPts (Memref.whole cc0_scratch2) c f)
      ∗ (∃ f, wPts (Memref.whole cc0_scratch3) c f))
    ∗ cPts c Finset.univ (shareOf c x kk vv wq wo)
    ∗ (barPay c 0 ∗ barPay c 1 ∗ barPay c 2) ∗ semVal (bcell c) 0
    ∗ (semVal ((c : Thread nD τ), s4) 0 ∗ semVal ((c : Thread nD τ), s5) 0) ∗ owing c 6)

theorem comp_run (c : Dev nD) {α : Type} (Q : α → sProp 𝕄)
    (k : Dev nD → (v7 v9 v26 v29 v32 v33 v977 v982 v989 : BitVec 32) → Prog (TpuEff nD τ sig (Elt F) Λ₀ .tc) α)
    (x kk vv : FVec F S2048x1024 .f32) (wq : FVec F S1024x8192 .f32) (wo : FVec F S8192x1024 .f32)
    (f0 f1 : FVec F S1024x1024 .f32) (f2 f3 f4 : FVec F S2048x1024 .bf16) :
    iprop(records P κ ∗ levAts L lv ∗ barGear c
        ∗ (wPts (Memref.whole cc0_stg0_0) c x ∗ wPts (Memref.whole cc0_stg1_0) c kk ∗ wPts (Memref.whole cc0_stg2_0) c vv
          ∗ wPts (Memref.whole main_arg1) c wq ∗ wPts (Memref.whole main_arg4) c wo)
        ∗ (wPts (Memref.whole cc0_scratch0) c f0 ∗ wPts (Memref.whole cc0_scratch1) c f1 ∗ wPts (Memref.whole cc0_scratch2) c f2
          ∗ wPts (Memref.whole cc0_scratch3) c f3 ∗ wPts (Memref.whole cc0_scratch4) c f4)
        ∗ (semVal ((c : Thread nD τ), s4) 0 ∗ semVal ((c : Thread nD τ), s5) 0)
        ∗ iprop(∀ v7 v9 v26 v29 v32 v33 v977 v982 v989, compPost c x kk vv wq wo
           -∗ wp frame (wpE (defs₀ (F := F)) 𝒱₀ (c : Thread nD τ) none) Set.univ (k c v7 v9 v26 v29 v32 v33 v977 v982 v989) Q))
      ⊢ wp frame (wpE (defs₀ (F := F)) 𝒱₀ (c : Thread nD τ) none) Set.univ
        (frontProg fun d0 v7 v9 v26 v29 v32 v33 v62 => tilesProg d0 v7 v9 v62 (k d0 v7 v9 v26 v29 v32 v33)) Q := by
  have hm4 := lv_low (F := F) c 4 (by decide)
  have hm5 := lv_low (F := F) c 5 (by decide)
  unfold barGear
  iintro ⟨#HR, #HL, ⟨Hat, Hcr, Ht0, Ht1, Ht2, ⟨#Hr0, #Hr1, #Hr2, #Hr3, #Hr4, #Hr5⟩, ⟨%fl, Hl⟩, ⟨%W, HO⟩⟩, ⟨Hx, HK, HV, Hwq, Hwo⟩, ⟨H0, H1, H2, H3, H4⟩, ⟨Hd4, Hd5⟩, Hk⟩
  unfold frontProg
  sl_exec
  -- the barrier's three signals, each with a slot of the landing buffer
  ihave Hl' := (slots_cut c fl) $$ Hl
  icases Hl' with ⟨Hl0, Hl1, Hl2⟩
  rw [dev1_eq c]
  iapply (Rounds.wp_signal 𝒱₀ ER (sched P) (c : Thread nD τ) none (dst := (prt 0 c : Thread nD τ)) (sem := barS) (r := 0) (d := (0 : Fin 3))
      (κ := κ (bcell (prt 0 c))) (by rw [duties_bar]; exact Finset.mem_univ _) ((amount_bar P (prt 0 c) 0).trans (by decide)) () (O2 c) rfl)
    $$ [HO Ht0 Hl0]
  · isplitr; · iapply (inv_at P κ (bar_mem (prt 0 c))); iexact HR
    isplitl [HO]; · iexact HO
    isplitl [Ht0]; · iexact Ht0
    isplitl [Hl0]
    · rw [payload_bar, barPay_0]
      isplitl [Hl0]; · iexists fl; iexact Hl0
      isplitr <;> iassumption
    · iapply (reached_bar P κ (prt 0 c)); iexact HR
  iintro HO
  sl_exec
  rw [dev2_eq c]
  iapply (Rounds.wp_signal 𝒱₀ ER (sched P) (c : Thread nD τ) none (dst := (prt 1 c : Thread nD τ)) (sem := barS) (r := 0) (d := (1 : Fin 3))
      (κ := κ (bcell (prt 1 c))) (by rw [duties_bar]; exact Finset.mem_univ _) ((amount_bar P (prt 1 c) 1).trans (by decide)) () (O1 c) rfl)
    $$ [HO Ht1 Hl1]
  · isplitr; · iapply (inv_at P κ (bar_mem (prt 1 c))); iexact HR
    isplitl [HO]; · iexact HO
    isplitl [Ht1]; · iexact Ht1
    isplitl [Hl1]
    · rw [payload_bar, barPay_1]
      isplitl [Hl1]; · iexists fl; iexact Hl1
      isplitr <;> iassumption
    · iapply (reached_bar P κ (prt 1 c)); iexact HR
  iintro HO
  sl_exec
  rw [dev3_eq c]
  iapply (Rounds.wp_signal 𝒱₀ ER (sched P) (c : Thread nD τ) none (dst := (prt 2 c : Thread nD τ)) (sem := barS) (r := 0) (d := (2 : Fin 3))
      (κ := κ (bcell (prt 2 c))) (by rw [duties_bar]; exact Finset.mem_univ _) ((amount_bar P (prt 2 c) 2).trans (by decide)) () (owe c 6) rfl)
    $$ [HO Ht2 Hl2]
  · isplitr; · iapply (inv_at P κ (bar_mem (prt 2 c))); iexact HR
    isplitl [HO]; · iexact HO
    isplitl [Ht2]; · iexact Ht2
    isplitl [Hl2]
    · rw [payload_bar, barPay_2]
      isplitl [Hl2]; · iexists fl; iexact Hl2
      isplitr <;> iassumption
    · iapply (reached_bar P κ (prt 2 c)); iexact HR
  iintro HO
  sl_exec
  -- the wait for the three partners
  iapply (Rounds.wp_wait_rest_token 𝒱₀ ER (sched P) (c : Thread nD τ) none (sm := .reg barS) (k' := 3) (κ := κ (bcell c))
      (wpE_semWait_eq 𝒱₀ (c : Thread nD τ) none Set.univ) (Set.mem_univ _) () (O := owe c 6) (W := W) (R := 0) (m := 0) (T := ∅)
      (expect_bar P c).symm) $$ [Hcr HO Hat]
  · isplitr; · iapply (inv_at P κ (bar_mem c)); iexact HR
    isplitl [Hcr]; · iexact Hcr
    isplitl [HO]; · iexact HO
    isplitr; · iapply (mayWait_owe c (.reg barS) 6 (by decide) (by exact Nat.le_refl 1)); iexact HL
    iexact Hat
  iintro ⟨HO, Hat, -, Hpay⟩
  ihave Hp := (Entails.of_eq (rest_bar P c)) $$ Hpay
  imod (Rounds.cell_close ER (sched P) (Set.mem_univ (κ (bcell c))) (fun h => h) (R := 0 + 1) (duties_later P (bcell c))) $$ [Hat] with Hz
  · isplitr; · iapply (inv_at P κ (bar_mem c)); iexact HR
    iexact Hat
  sl_exec
  -- the queries, the context and the share as the run leaves them
  have hwq : comp_run.sl.v55 c wq f0 = wqCols c wq := by
    unfold comp_run.sl.v55 comp_run.sl.dma0
    refine (View.readAt_full _ _ _).trans ?_
    exact View.write_whole_univ _ _ _
  have hq : comp_run.sl.v61 c x wq f0 = qOf c x wq := by
    refine Eq.trans ?_ (congrArg₂ k0_pay2 (show (Memref.whole cc0_stg0_0).view.readAt (Elt F) (Rect.unit (s := S2048x1024) ![0, 0] S2048x1024.size fullInb).toLoadRect x = x from View.readAt_full (Val := Elt F) (Memref.whole cc0_stg0_0).view x (off := ![0, 0]) fullInb) hwq)
    rfl
  have hctx : comp_run.sl.v969 c x kk vv wq f0 = ctxOf (qOf c x wq) kk vv := by
    unfold comp_run.sl.v969
    rw [View.readCov_eq_canon']
    funext j
    have at_ := fun (b : Fin 4) (h : Fin 8) (j : S512x128.Idx) => tileRun_at b h hq kk vv j
    refine (canon_of_pieces (ctxOf (qOf c x wq) kk vv) _ ?_ _ (pieces_cover _ rfl _)).trans (congrArg _ ?_)
    · unfold comp_run.sl.H3_32
      exact
      List.forall_mem_cons.2 ⟨at_ 3 7, List.forall_mem_cons.2 ⟨at_ 3 6, List.forall_mem_cons.2 ⟨at_ 3 5, List.forall_mem_cons.2 ⟨at_ 3 4, List.forall_mem_cons.2 ⟨at_ 3 3, List.forall_mem_cons.2 ⟨at_ 3 2, List.forall_mem_cons.2 ⟨at_ 3 1, List.forall_mem_cons.2 ⟨at_ 3 0,
      List.forall_mem_cons.2 ⟨at_ 2 7, List.forall_mem_cons.2 ⟨at_ 2 6, List.forall_mem_cons.2 ⟨at_ 2 5, List.forall_mem_cons.2 ⟨at_ 2 4, List.forall_mem_cons.2 ⟨at_ 2 3, List.forall_mem_cons.2 ⟨at_ 2 2, List.forall_mem_cons.2 ⟨at_ 2 1, List.forall_mem_cons.2 ⟨at_ 2 0,
      List.forall_mem_cons.2 ⟨at_ 1 7, List.forall_mem_cons.2 ⟨at_ 1 6, List.forall_mem_cons.2 ⟨at_ 1 5, List.forall_mem_cons.2 ⟨at_ 1 4, List.forall_mem_cons.2 ⟨at_ 1 3, List.forall_mem_cons.2 ⟨at_ 1 2, List.forall_mem_cons.2 ⟨at_ 1 1, List.forall_mem_cons.2 ⟨at_ 1 0,
      List.forall_mem_cons.2 ⟨at_ 0 7, List.forall_mem_cons.2 ⟨at_ 0 6, List.forall_mem_cons.2 ⟨at_ 0 5, List.forall_mem_cons.2 ⟨at_ 0 4, List.forall_mem_cons.2 ⟨at_ 0 3, List.forall_mem_cons.2 ⟨at_ 0 2, List.forall_mem_cons.2 ⟨at_ 0 1, List.forall_mem_cons.2 ⟨at_ 0 0,
        fun _ h => absurd h List.not_mem_nil⟩⟩⟩⟩⟩⟩⟩⟩⟩⟩⟩⟩⟩⟩⟩⟩⟩⟩⟩⟩⟩⟩⟩⟩⟩⟩⟩⟩⟩⟩⟩⟩
    · funext a
      have h0 : (![0, 0] : Fin 2 → Nat) a = 0 := congrFun zero_off2 a
      exact Fin.ext (by show (![0, 0] : Fin 2 → Nat) a + 1 * (j a).val = _; omega)
  have hsh : comp_run.sl.v976 c x kk vv wq wo f0 f1 = shareOf c x kk vv wq wo := by
    have ho : comp_run.sl.v970 c wo f1 = woRows c wo := by
      unfold comp_run.sl.v970 comp_run.sl.dma0_1
      exact (View.readAt_full _ _ _).trans (View.write_whole_univ _ _ _)
    refine Eq.trans ?_ (congrArg₂ k0_pay73 hctx ho)
    rfl
  iapply Hk
  unfold compPost owing
  isplitl [Hx HK HV Hwq Hwo]
  · isplitl [Hx]; · iexact Hx
    isplitl [HK]; · iexact HK
    isplitl [HV]; · iexact HV
    isplitl [Hwq]; · iexact Hwq
    iexact Hwo
  isplitl [H0 H1 H2 H3]
  · isplitl [H0]; · iexists _; iexact H0
    isplitl [H1]; · iexists _; iexact H1
    isplitl [H2]
    · iexists _; iexact H2
    · iexists _; iexact H3
  isplitl [H4]
  · rw [← hsh]
    have e := writes_one (F := F) (b := cc0_scratch4) zero_off2 fullInb f4 (comp_run.sl.v976 c x kk vv wq wo f0 f1)
    ihave H4' := (Entails.of_eq (congrArg (cPts c Finset.univ) e)) $$ H4
    iexact H4'
  isplitl [Hp]; · iexact Hp
  isplitl [Hz]; · iexact Hz
  isplitl [Hd4 Hd5]
  · isplitl [Hd4]; · iexact Hd4
    iexact Hd5
  iexists _; iexact HO

end Cert.Attn
end
end
-- ==== Proof.Whole.lean ====
/- The kernel's body, run whole on one device. -/
module

public import proofs.«01_k».proof.Proof.Body
public import proofs.«01_k».proof.Proof.Exchange

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Arr F) (κ : GSem nD τ sig → ℕ)

/-- The argument buffers the body reads, at their contents. -/
abbrev inputs (c : Dev nD) (x kk vv : FVec F S2048x1024 .f32) (wq : FVec F S1024x8192 .f32) (wo : FVec F S8192x1024 .f32) : sProp 𝕄 :=
  iprop(wPts (Memref.whole cc0_stg0_0) c x ∗ wPts (Memref.whole cc0_stg1_0) c kk ∗ wPts (Memref.whole cc0_stg2_0) c vv
    ∗ wPts (Memref.whole main_arg1) c wq ∗ wPts (Memref.whole main_arg4) c wo)

/-- Five of the scratch buffers, at any contents. -/
def scratches (c : Dev nD) : sProp 𝕄 :=
  iprop((∃ f, wPts (Memref.whole cc0_scratch0) c f) ∗ (∃ f, wPts (Memref.whole cc0_scratch1) c f) ∗ (∃ f, wPts (Memref.whole cc0_scratch2) c f)
    ∗ (∃ f, wPts (Memref.whole cc0_scratch3) c f) ∗ (∃ f, wPts (Memref.whole cc0_scratch4) c f))

/-- The counters of the two local copies. -/
abbrev locals (c : Dev nD) : sProp 𝕄 := iprop(semVal ((c : Thread nD τ), s4) 0 ∗ semVal ((c : Thread nD τ), s5) 0)

/-- What a device brings to the six phases. -/
def gears (c : Dev nD) : sProp 𝕄 := iprop(gear 0 c ∗ gear 1 c ∗ gear 2 c ∗ gear 3 c ∗ gear 4 c ∗ gear 5 c)

/-- What the body leaves. -/
def bodyLeft (c : Dev nD) (x kk vv : FVec F S2048x1024 .f32) (wq : FVec F S1024x8192 .f32) (wo : FVec F S8192x1024 .f32) : sProp 𝕄 :=
  iprop(inputs c x kk vv wq wo ∗ scratches c ∗ (∃ f, lPts c Finset.univ f) ∗ semVal (bcell c) 0 ∗ locals c
    ∗ (zeros 0 c ∗ zeros 1 c ∗ zeros 2 c ∗ zeros 3 c ∗ zeros 4 c ∗ zeros 5 c) ∗ owing c 0 ∗ oPts c (k0_pay1 (B5 P c)))

theorem body_run (c : Dev nD) (x kk vv : FVec F S2048x1024 .f32) (wq : FVec F S1024x8192 .f32) (wo : FVec F S8192x1024 .f32)
    (hP : P c = shareOf c x kk vv wq wo) (Q : PUnit → sProp 𝕄) :
    iprop((records P κ ∗ levAts L lv ∗ barGear c ∗ gears c) ∗ inputs c x kk vv wq wo ∗ scratches c ∗ locals c ∗ (∃ f, oPts c f)
        ∗ (bodyLeft P c x kk vv wq wo -∗ Q ⟨⟩))
      ⊢ wp frame (wpE (defs₀ (F := F)) 𝒱₀ (c : Thread nD τ) none) Set.univ (bodyProg (F := F)) Q := by
  rw [body_eq]
  unfold scratches gears
  iintro ⟨⟨#HR, #HL, Hb, HG⟩, Hin, ⟨⟨%f0, H0⟩, ⟨%f1, H1⟩, ⟨%f2, H2⟩, ⟨%f3, H3⟩, ⟨%f4, H4⟩⟩, Hloc, Hout, Hk⟩
  iapply (comp_run P κ c Q (fun d0 v7 v9 v26 v29 v32 v33 v977 v982 v989 => exchProg d0 v7 v9 v26 v29 v32 v33 v977 v982 v989) x kk vv wq wo f0 f1 f2 f3 f4)
  isplitr; · iexact HR
  isplitr; · iexact HL
  isplitl [Hb]; · iexact Hb
  isplitl [Hin]; · iexact Hin
  isplitl [H0 H1 H2 H3 H4]
  · isplitl [H0]; · iexact H0
    isplitl [H1]; · iexact H1
    isplitl [H2]; · iexact H2
    isplitl [H3]; · iexact H3
    iexact H4
  isplitl [Hloc]; · iexact Hloc
  iintro %v7 %v9 %v26 %v29 %v32 %v33 %v977 %v982 %v989 Hp
  unfold compPost
  icases Hp with ⟨Hin, ⟨H0, H1, H2, H3⟩, Hc, Hpay, Hz, Hloc, HO⟩
  iapply (exch_run P κ c v7 v9 v26 v29 v32 v33 v977 v982 v989 Q)
  isplitl [Hc Hpay HO HG Hout]
  · unfold exchPre
    isplitr; · iexact HR
    isplitr; · iexact HL
    isplitl [Hc]; · rw [hP]; iexact Hc
    isplitl [Hpay]; · iexact Hpay
    isplitl [HO]; · iexact HO
    isplitl [HG]; · iexact HG
    iexact Hout
  iintro He
  unfold exchPost
  icases He with ⟨Hc, Hl, HO, HZ, Hout⟩
  iapply Hk
  unfold bodyLeft scratches
  isplitl [Hin]; · iexact Hin
  isplitl [H0 H1 H2 H3 Hc]
  · isplitl [H0]; · iexact H0
    isplitl [H1]; · iexact H1
    isplitl [H2]; · iexact H2
    isplitl [H3]; · iexact H3
    iexists _; iexact Hc
  isplitl [Hl]; · iexact Hl
  isplitl [Hz]; · iexact Hz
  isplitl [Hloc]; · iexact Hloc
  isplitl [HZ]; · iexact HZ
  isplitl [HO]; · iexact HO
  iexact Hout

end Cert.Attn
end
end
-- ==== Proof.Region.lean ====
/- The region of the kernel as the pipeline sees it: what its windows hold before and after, what it owes, and the body. -/
module

public import proofs.«01_k».proof.Proof.Whole

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ)

/-! ## What the launch finds and the region leaves -/

/-- The arrays the region finds on device `c`: three of them re-laid from the arguments, two arguments whole. -/
abbrev xIn (c : Dev nD) : FVec F S2048x1024 .f32 := V m c main_v1
abbrev kIn (c : Dev nD) : FVec F S2048x1024 .f32 := V m c main_v2
abbrev vIn (c : Dev nD) : FVec F S2048x1024 .f32 := V m c main_v3
abbrev wqIn (c : Dev nD) : FVec F S1024x8192 .f32 := V m c main_arg1
abbrev woIn (c : Dev nD) : FVec F S8192x1024 .f32 := V m c main_arg4

/-- The part of the result each device computes, and what the exchange makes of the eight parts. -/
def part (c : Dev nD) : Arr F := shareOf c (xIn m c) (kIn m c) (vIn m c) (wqIn m c) (woIn m c)
def total (c : Dev nD) : FVec F S2048x1024 .f32 := k0_pay1 (B5 (part m) c)

/-! ## The semaphores of the kernel -/

/-- The semaphores of the two local copies, of the six sends and of the six receives. -/
abbrev osem : Fin 14 → SemLoc sig := fun k => .dma ⟨4 + k.val, by have := k.isLt; show 4 + k.val < 18; omega⟩
theorem ownSemFacts : Pipeline.OwnSemFacts spec0 osem := by decide

/-- Each at zero. -/
abbrev allZero (c : Dev nD) : sProp 𝕄 :=
  iprop(locals c ∗ (semVal (scell 0 c) 0 ∗ semVal (scell 1 c) 0 ∗ semVal (scell 2 c) 0 ∗ semVal (scell 3 c) 0 ∗ semVal (scell 4 c) 0 ∗ semVal (scell 5 c) 0)
    ∗ (semVal (rcell 0 c) 0 ∗ semVal (rcell 1 c) 0 ∗ semVal (rcell 2 c) 0 ∗ semVal (rcell 3 c) 0 ∗ semVal (rcell 4 c) 0 ∗ semVal (rcell 5 c) 0))

omit [FloatOps F] [Named F] in
theorem ownSems0_eq (c : Dev nD) :
    (Pipeline.ownSems0 (Ix := Unit) (Name := ℕ) (U := UU) (Lvl := ℕ) (Val := Elt F) (τ := τ) osem c : sProp 𝕄)
      = iprop(semVal ((c : Thread nD τ), s4) 0 ∗ semVal ((c : Thread nD τ), s5) 0
        ∗ semVal (scell 0 c) 0 ∗ semVal (scell 1 c) 0 ∗ semVal (scell 2 c) 0 ∗ semVal (scell 3 c) 0 ∗ semVal (scell 4 c) 0 ∗ semVal (scell 5 c) 0
        ∗ semVal (rcell 0 c) 0 ∗ semVal (rcell 1 c) 0 ∗ semVal (rcell 2 c) 0 ∗ semVal (rcell 3 c) 0 ∗ semVal (rcell 4 c) 0 ∗ semVal (rcell 5 c) 0) :=
  Pipeline.ownSems0_eq_of_list c osem [0, 1, 2, 3, 4, 5, 6, 7, 8, 9, 10, 11, 12, 13] (by decide) (by decide)

/-! ## Between the region's ends -/

/-- The exchange's ghost state once its cells are open, but for the launch's credits and debt, which `barGear` joins. -/
def barKit (c : Dev nD) : sProp 𝕄 :=
  iprop(atPos ER (bcell c) 0 ∅ 0 ∗ cred (tallyAt (bcell c) () 3)
    ∗ dutyTok ER (bcell (prt 0 c)) 0 (0 : Fin 3) ∗ dutyTok ER (bcell (prt 1 c)) 0 (1 : Fin 3) ∗ dutyTok ER (bcell (prt 2 c)) 0 (2 : Fin 3)
    ∗ (reached ER (rcell 0 c) 0 ∗ reached ER (rcell 1 c) 0 ∗ reached ER (rcell 2 c) 0 ∗ reached ER (rcell 3 c) 0 ∗ reached ER (rcell 4 c) 0 ∗ reached ER (rcell 5 c) 0))

/-- The buffers the body uses beside its windows. -/
abbrev wPair (c : Dev nD) : sProp 𝕄 := iprop(wPts (Memref.whole main_arg1) c (wqIn m c) ∗ wPts (Memref.whole main_arg4) c (woIn m c))
abbrev rest (c : Dev nD) : sProp 𝕄 :=
  iprop((∃ f, wPts (Memref.whole cc0_scratch0) c f) ∗ (∃ f, wPts (Memref.whole cc0_scratch1) c f) ∗ (∃ f, wPts (Memref.whole cc0_scratch2) c f)
    ∗ (∃ f, wPts (Memref.whole cc0_scratch3) c f) ∗ (∃ f, wPts (Memref.whole cc0_scratch4) c f) ∗ (∃ f, wPts (Memref.whole cc0_scratch5) c f))
omit [FloatOps F] [Named F] in
theorem rest_eq (c : Dev nD) : (Pipeline.scopedRest (Ix := Unit) (Name := ℕ) (U := UU) (Lvl := ℕ) (Val := Elt F) spec0 c : sProp 𝕄) = rest c :=
  scopedRest0_eq c

/-- The exchange's state as the region enters it. -/
def talk (c : Dev nD) : sProp 𝕄 := iprop((∃ κ, records (part m) κ) ∗ levAts L lv ∗ barKit c ∗ gears c ∗ locals c)

def Φin (c : Dev nD) : sProp 𝕄 := iprop(talk m c ∗ wPair m c ∗ rest c ∗ ∃ r, prngReg c r)
def Φout (c : Dev nD) : sProp 𝕄 := iprop(semVal (bcell c) 0 ∗ allZero c ∗ wPair m c ∗ rest c ∗ ∃ r, prngReg c r)

def dats (_ : Fin 1) (c : Dev nD) : Dat τ (Elt F) Unit ℕ UU ℕ cfg0 c where
  A w := V m c (Pipeline.arrRef spec0 w)
  after w t := match w with | ⟨0, _⟩ => iblk m c 0 t | ⟨1, _⟩ => iblk m c 1 t | ⟨2, _⟩ => iblk m c 2 t | ⟨3, _⟩ => total m c
  Φ t := if t.val = 0 then Φin m c else Φout m c
  q _ := fullShare
  owed t := if t.val = 0 then O₀ c else 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- An input window holds its block when the body runs. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)

/-- A window that is its whole array reads the array. -/
theorem iblk_0 (c : Dev nD) : (iblk m c 0 t0_0 : FVec F S2048x1024 .f32) = xIn m c := by
  funext i
  show V m c main_v1 (((cfg0.win 0).blk t0_0).view.emb i) = V m c main_v1 i
  congr 1
  funext a; apply Fin.ext
  exact ((cfg0.win 0).rect_emb_val_of_index_zero t0_0 a rfl i)
theorem iblk_1 (c : Dev nD) : (iblk m c 1 t0_0 : FVec F S2048x1024 .f32) = kIn m c := by
  funext i
  show V m c main_v2 (((cfg0.win 1).blk t0_0).view.emb i) = V m c main_v2 i
  congr 1
  funext a; apply Fin.ext
  exact ((cfg0.win 1).rect_emb_val_of_index_zero t0_0 a rfl i)
theorem iblk_2 (c : Dev nD) : (iblk m c 2 t0_0 : FVec F S2048x1024 .f32) = vIn m c := by
  funext i
  show V m c main_v3 (((cfg0.win 2).blk t0_0).view.emb i) = V m c main_v3 i
  congr 1
  funext a; apply Fin.ext
  exact ((cfg0.win 2).rect_emb_val_of_index_zero t0_0 a rfl i)

/-- The result's array once the region has written it back. -/
theorem arrAt_3 (c : Dev nD) : ((dats m 0 c).arrAt 3 cfg0.N : FVec F S2048x1024 .f32) = total m c :=
  (dats m 0 c).arrAt_eq_of_cover 3 (total m c)
    (fun t _ => by
      rw [fin_N0 t]
      funext i
      show total m c i = total m c (((cfg0.win 3).blk t0_0).view.emb i)
      congr 1
      funext a; apply Fin.ext
      exact ((cfg0.win 3).rect_emb_val_of_index_zero t0_0 a rfl i).symm)
    (fun i => ⟨t0_0, flush0_3 t0_0, by
      have h := ((cfg0.win 3).blk t0_0).view.emb_mem_set i
      rwa [show ((cfg0.win 3).blk t0_0).view.emb i = i from by
        funext a; apply Fin.ext
        exact ((cfg0.win 3).rect_emb_val_of_index_zero t0_0 a rfl i)] at h⟩)

/-! ## The body, as the pipeline asks for it -/

theorem owesAt_elim (c : Dev nD) (t : Fin (cfg0.N + 1)) (O : CellTallies nD τ sig Unit) (h : (dats m 0 c).owed t = O) :
    (dats m 0 c).owesAt () t ⊢ iprop(∃ W, owes (c : Thread nD τ) O W) := by
  unfold Dat.owesAt Pipeline.owesWithin; rw [h]
  iintro ⟨%W, -, HO⟩; iexists W; iexact HO
theorem owesAt_intro (c : Dev nD) (t : Fin (cfg0.N + 1)) (O : CellTallies nD τ sig Unit) (h : (dats m 0 c).owed t = O) :
    iprop(∃ W, owes (c : Thread nD τ) O W) ⊢ (dats m 0 c).owesAt () t := by
  unfold Dat.owesAt Pipeline.owesWithin; rw [h]
  iintro ⟨%W, HO⟩; iexists W
  isplitr; · ipureintro; exact fun _ _ => Or.inl trivial
  iexact HO

/-- The body on what the region gives it, and what it gives back. -/
theorem body_step (c : Dev nD) (Q : PUnit → sProp 𝕄) :
    iprop((Φin m c ∗ ∃ W, owes (c : Thread nD τ) (O₀ c) W)
        ∗ (wPts (Memref.whole cc0_stg0_0) c (xIn m c) ∗ wPts (Memref.whole cc0_stg1_0) c (kIn m c) ∗ wPts (Memref.whole cc0_stg2_0) c (vIn m c) ∗ ∃ f, oPts c f)
        ∗ ((Φout m c ∗ ∃ W, owes (c : Thread nD τ) (0 : CellTallies nD τ sig Unit) W)
            ∗ (wPts (Memref.whole cc0_stg0_0) c (xIn m c) ∗ wPts (Memref.whole cc0_stg1_0) c (kIn m c) ∗ wPts (Memref.whole cc0_stg2_0) c (vIn m c) ∗ oPts c (total m c)) -∗ Q ⟨⟩))
      ⊢ wp frame (wpE (defs₀ (F := F)) 𝒱₀ (c : Thread nD τ) none) Set.univ (bodyProg (F := F)) Q := by
  unfold Φin talk barKit
  iintro ⟨⟨⟨⟨⟨%κ, #HR⟩, #HL, ⟨Ha, Hc, Ht0, Ht1, Ht2, Hre⟩, HG, Hloc⟩, ⟨Hwq, Hwo⟩, ⟨H0, H1, H2, H3, H4, H5⟩, Hp⟩, HO⟩, ⟨Hx, Hkk, Hvv, Hout⟩, Hk⟩
  iapply (body_run (part m) κ c (xIn m c) (kIn m c) (vIn m c) (wqIn m c) (woIn m c) rfl Q)
  isplitl [Ha Hc Ht0 Ht1 Ht2 Hre HG H5 HO]
  · isplitr; · iexact HR
    isplitr; · iexact HL
    isplitr [HG]
    · unfold barGear
      isplitl [Ha]; · iexact Ha
      isplitl [Hc]; · iexact Hc
      isplitl [Ht0]; · iexact Ht0
      isplitl [Ht1]; · iexact Ht1
      isplitl [Ht2]; · iexact Ht2
      isplitl [Hre]; · iexact Hre
      isplitl [H5]; · iexact H5
      iexact HO
    · iexact HG
  isplitl [Hx Hkk Hvv Hwq Hwo]
  · isplitl [Hx]; · iexact Hx
    isplitl [Hkk]; · iexact Hkk
    isplitl [Hvv]; · iexact Hvv
    isplitl [Hwq]; · iexact Hwq
    iexact Hwo
  isplitl [H0 H1 H2 H3 H4]
  · unfold scratches
    isplitl [H0]; · iexact H0
    isplitl [H1]; · iexact H1
    isplitl [H2]; · iexact H2
    isplitl [H3]; · iexact H3
    iexact H4
  isplitl [Hloc]; · iexact Hloc
  isplitl [Hout]; · iexact Hout
  iintro Hb
  unfold bodyLeft scratches zeros owing
  icases Hb with ⟨⟨Hx, Hkk, Hvv, Hwq, Hwo⟩, ⟨H0, H1, H2, H3, H4⟩, H5, Hz, Hloc, ⟨⟨S0, R0⟩, ⟨S1, R1⟩, ⟨S2, R2⟩, ⟨S3, R3⟩, ⟨S4, R4⟩, ⟨S5, R5⟩⟩, HO, Hout⟩
  iapply Hk
  isplitr [Hx Hkk Hvv Hout]
  · isplitr [HO]
    · unfold Φout
      isplitl [Hz]; · iexact Hz
      isplitl [Hloc S0 S1 S2 S3 S4 S5 R0 R1 R2 R3 R4 R5]
      · isplitl [Hloc]; · iexact Hloc
        isplitl [S0 S1 S2 S3 S4 S5]
        · isplitl [S0]; · iexact S0
          isplitl [S1]; · iexact S1
          isplitl [S2]; · iexact S2
          isplitl [S3]; · iexact S3
          isplitl [S4]; · iexact S4
          iexact S5
        · isplitl [R0]; · iexact R0
          isplitl [R1]; · iexact R1
          isplitl [R2]; · iexact R2
          isplitl [R3]; · iexact R3
          isplitl [R4]; · iexact R4
          iexact R5
      isplitl [Hwq Hwo]
      · isplitl [Hwq]; · iexact Hwq
        iexact Hwo
      isplitl [H0 H1 H2 H3 H4 H5]
      · isplitl [H0]; · iexact H0
        isplitl [H1]; · iexact H1
        isplitl [H2]; · iexact H2
        isplitl [H3]; · iexact H3
        isplitl [H4]; · iexact H4
        iexact H5
      iexact Hp
    · iexact HO
  · isplitl [Hx]; · iexact Hx
    isplitl [Hkk]; · iexact Hkk
    isplitl [Hvv]; · iexact Hvv
    iexact Hout

theorem body_obligation (c : Dev nD) : BodyObligation (dats m 0 c) (defs₀ (F := F)) 𝒱₀ () Set.univ := fun t => by
  obtain rfl := fin_N0 t
  rw [bigSep_W0, bigSep_W0]
  simp only [owns_whole_eq]
  rw [show (dats m 0 c).Φ t0_0.castSucc = Φin m c from rfl, show (dats m 0 c).Φ t0_0.succ = Φout m c from rfl]
  iintro ⟨HΦ, HO, ⟨%d0, %f0, %h0, H0⟩, ⟨%d1, %f1, %h1, H1⟩, ⟨%d2, %f2, %h2, H2⟩, ⟨%d3, %f3, %h3, H3⟩⟩
  rw [before_0] at h0
  rw [before_1] at h1
  rw [before_2] at h2
  subst h0 h1 h2
  ihave HO' := (owesAt_elim m c t0_0.castSucc (O₀ c) rfl) $$ HO
  iapply (body_step m c)
  isplitl [HΦ HO']
  · isplitl [HΦ]; · iexact HΦ
    iexact HO'
  isplitl [H0 H1 H2 H3]
  · rw [← iblk_0 m c, ← iblk_1 m c, ← iblk_2 m c]
    isplitl [H0]; · iexact H0
    isplitl [H1]; · iexact H1
    isplitl [H2]; · iexact H2
    iexists f3; iexact H3
  rw [← iblk_0 m c, ← iblk_1 m c, ← iblk_2 m c]
  iintro ⟨⟨HΦ, HO⟩, ⟨H0, H1, H2, H3⟩⟩
  isplitl [HΦ]; · iexact HΦ
  isplitl [HO]
  · iapply (owesAt_intro m c t0_0.succ 0 rfl)
    iexact HO
  isplitl [H0]
  · iexists _; isplitr; swap; (· iexact H0); ipureintro; exact (after_0 m c t0_0).symm
  isplitl [H1]
  · iexists _; isplitr; swap; (· iexact H1); ipureintro; exact (after_1 m c t0_0).symm
  isplitl [H2]
  · iexists _; isplitr; swap; (· iexact H2); ipureintro; exact (after_2 m c t0_0).symm
  iexists _; isplitr; swap; (· iexact H3); ipureintro; dsimp only [dats]

end Cert.Attn
end
end
-- ==== Proof.Seeds.lean ====
/- The ghost state of the exchange at launch: rights to open cells, duty tokens, credits, and how they are dealt. -/
module

public import proofs.«01_k».proof.Proof.Region

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Arr F)

/-! ## What a device holds of the exchange before the region -/

/-- For a phase: the rights to open its two cells, the tokens of the two duties the device pays, the credit of its receive cell. -/
def seed (k : Fin 6) (c : Dev nD) : sProp 𝕄 :=
  iprop(openTok ER (scell k c) ∗ openTok ER (rcell k c) ∗ dutyTok ER (scell k c) 0 (0 : Fin 3)
    ∗ dutyTok ER (rcell k (prt (axis k) c)) 0 (0 : Fin 3) ∗ cred (tallyAt (rcell k c) () (amt k)))

/-- For the barrier: its position and credit, and the tokens of the units paid to the three partners. -/
def barSeed (c : Dev nD) : sProp 𝕄 :=
  iprop(atPos ER (bcell c) 0 ∅ 0 ∗ cred (tallyAt (bcell c) () 3)
    ∗ dutyTok ER (bcell (prt 0 c)) 0 (0 : Fin 3) ∗ dutyTok ER (bcell (prt 1 c)) 0 (1 : Fin 3) ∗ dutyTok ER (bcell (prt 2 c)) 0 (2 : Fin 3))

def seeds (c : Dev nD) : sProp 𝕄 := iprop(barSeed c ∗ seed 0 c ∗ seed 1 c ∗ seed 2 c ∗ seed 3 c ∗ seed 4 c ∗ seed 5 c)

/-! ## Opening the cells -/

theorem open_phase (κ : GSem nD τ sig → ℕ) (k : Fin 6) (c : Dev nD) :
    iprop(records P κ ∗ seed k c ∗ semVal (scell k c) 0 ∗ semVal (rcell k c) 0)
      ⊢ (|={Set.univ}=> iprop(gear k c ∗ reached ER (rcell k c) 0) : sProp 𝕄) := by
  unfold seed gear
  iintro ⟨#HR, ⟨HoS, HoR, HtS, HtR, Hc⟩, Hs, Hr⟩
  ihave #HiS := (inv_at P κ (send_mem k c)) $$ HR
  ihave #HiR := (inv_at P κ (recv_mem k c)) $$ HR
  imod (Rounds.cell_open ER (sched P) (g := scell k c) (Set.mem_univ (κ (scell k c)))) $$ [HoS Hs] with ⟨HaS, HrS⟩
  · isplitr; · iexact HiS
    isplitl [HoS]; · iexact HoS
    iexact Hs
  imod (Rounds.cell_open ER (sched P) (g := rcell k c) (Set.mem_univ (κ (rcell k c)))) $$ [HoR Hr] with ⟨HaR, HrR⟩
  · isplitr; · iexact HiR
    isplitl [HoR]; · iexact HoR
    iexact Hr
  imodintro
  isplitr [HrR]
  · isplitl [HaS]; · iexact HaS
    isplitl [HaR]; · iexact HaR
    isplitl [HtS]; · iexact HtS
    isplitl [HrS]; · iexact HrS
    isplitl [HtR]; · iexact HtR
    iexact Hc
  · iexact HrR

/-! ## The launch's tokens -/

/-- A device's fifteen duty tokens: three of its barrier cell, one of each of its twelve other cells. -/
abbrev tsem : Fin 15 → SemLoc sig × Fin 3 := fun j => if h : j.val < 3 then (.reg barS, ⟨j.val, h⟩) else (xsem ⟨j.val - 3, by omega⟩, 0)
theorem tsem_inj : Function.Injective tsem := by decide
def toks : Finset (GSem nD τ sig × ℕ × Fin 3) :=
  Finset.univ.map ⟨fun ck : Dev nD × Fin 15 => (((ck.1 : Thread nD τ), (tsem ck.2).1), 0, (tsem ck.2).2), fun _ _ h =>
    Prod.ext (congrArg (fun t : GSem nD τ sig × ℕ × Fin 3 => t.1.1.1) h)
      (tsem_inj (Prod.ext (congrArg (fun t : GSem nD τ sig × ℕ × Fin 3 => t.1.2) h) (congrArg (fun t : GSem nD τ sig × ℕ × Fin 3 => t.2.2) h)))⟩

theorem disjoint_cells : Disjoint (barCells : Finset (GSem nD τ sig)) xCells := by
  rw [Finset.disjoint_left]
  rintro g h₁ h₂
  obtain ⟨c, -, rfl⟩ := Finset.mem_map.mp h₁
  obtain ⟨ck, -, h⟩ := Finset.mem_map.mp h₂
  exact absurd (congrArg Prod.snd h) (by show xsem ck.2 ≠ .reg barS; unfold xsem; exact fun h => nomatch h)

abbrev tokS (k : Fin 6) (c : Dev nD) : sProp 𝕄 := dutyTok ER (scell k c) 0 (0 : Fin 3)
abbrev tokR (k : Fin 6) (c : Dev nD) : sProp 𝕄 := dutyTok ER (rcell k c) 0 (0 : Fin 3)
abbrev tokB (a : Fin 3) (c : Dev nD) : sProp 𝕄 := dutyTok ER (bcell c) 0 a

omit [FloatOps F] [Named F] in
theorem toks_eq : bigSep toks (fun x => (dutyTok ER x.1 x.2.1 x.2.2 : sProp 𝕄)) = bigSep Finset.univ fun c : Dev nD =>
    iprop(tokB 0 c ∗ tokB 1 c ∗ tokB 2 c ∗ tokS 0 c ∗ tokS 1 c ∗ tokS 2 c ∗ tokS 3 c ∗ tokS 4 c ∗ tokS 5 c
      ∗ tokR 0 c ∗ tokR 1 c ∗ tokR 2 c ∗ tokR 3 c ∗ tokR 4 c ∗ tokR 5 c) := by
  unfold toks; rw [bigSep_map, bigSep_univ_prod]
  exact bigSep_congr fun c _ => by
    rw [bigSep_univ_eq_bigSepL [0, 1, 2, 3, 4, 5, 6, 7, 8, 9, 10, 11, 12, 13, 14] (by decide) (by decide)]; rfl

omit [FloatOps F] [Named F] in
/-- Each token to the device that pays the duty. -/
theorem toks_around :
    (bigSep Finset.univ fun c : Dev nD => (iprop(tokB 0 c ∗ tokB 1 c ∗ tokB 2 c ∗ tokS 0 c ∗ tokS 1 c ∗ tokS 2 c ∗ tokS 3 c ∗ tokS 4 c ∗ tokS 5 c
      ∗ tokR 0 c ∗ tokR 1 c ∗ tokR 2 c ∗ tokR 3 c ∗ tokR 4 c ∗ tokR 5 c) : sProp 𝕄))
      = bigSep Finset.univ fun c : Dev nD => iprop(tokB 0 (prt 0 c) ∗ tokB 1 (prt 1 c) ∗ tokB 2 (prt 2 c) ∗ tokS 0 c ∗ tokS 1 c ∗ tokS 2 c ∗ tokS 3 c ∗ tokS 4 c ∗ tokS 5 c
        ∗ tokR 0 (prt (axis 0) c) ∗ tokR 1 (prt (axis 1) c) ∗ tokR 2 (prt (axis 2) c) ∗ tokR 3 (prt (axis 3) c) ∗ tokR 4 (prt (axis 4) c) ∗ tokR 5 (prt (axis 5) c)) := by
  simp only [bigSep_sep']
  have e (a : Fin 3) (Φ : Dev nD → sProp 𝕄) : bigSep Finset.univ Φ = bigSep Finset.univ fun c => Φ (prt a c) := bigSep_univ_equiv (prtEquiv a) Φ
  rw [e 0 (tokB 0), e 1 (tokB 1), e 2 (tokB 2), e (axis 0) (tokR 0), e (axis 1) (tokR 1), e (axis 2) (tokR 2), e (axis 3) (tokR 3), e (axis 4) (tokR 4), e (axis 5) (tokR 5)]

/-! ## The launch's credits -/

theorem prt_eq {a : Fin 3} {c d : Dev nD} : (c : Dev nD) = prt a d ↔ d = prt a c :=
  ⟨fun h => by rw [h, prt_prt], fun h => by rw [h, prt_prt]⟩

theorem rcell_inj {j k : Fin 6} {c d : Dev nD} (h : rcell j c = rcell k d) : j = k ∧ c = d := by
  refine ⟨?_, congrArg (fun g : GSem nD τ sig => g.1.1) h⟩
  have h' := congrArg (fun g : GSem nD τ sig => match g.2 with | .dma q => q.val | .reg _ => 0) h
  exact Fin.ext (Nat.add_left_cancel h')

theorem rcell_ne_bcell (k : Fin 6) (d c : Dev nD) : rcell k d ≠ bcell c := fun h => by
  have h' : (SemLoc.dma (rS k) : SemLoc sig) = .reg barS := congrArg Prod.snd h
  cases h'

theorem owe_bar (d c : Dev nD) : ∀ n, owe d n (bcell c) () = 0
  | 0 => rfl
  | n + 1 => by
    unfold owe
    rw [Pi.add_apply, Finsupp.add_apply, owe_bar d c n, tallyAt_ne_cell (rcell_ne_bcell _ _ c).symm, Finsupp.zero_apply, Nat.add_zero]

theorem bar_unit (a : Fin 3) (d c : Dev nD) : (tallyAt (bcell (prt a d)) () 1 : CellTallies nD τ sig Unit) (bcell c) () = if d = prt a c then 1 else 0 := by
  rw [tallyAt_apply]
  by_cases h : d = prt a c
  · subst h; rw [prt_prt, if_pos ⟨rfl, rfl⟩, if_pos rfl]
  · rw [if_neg (fun ⟨h1, _⟩ => h (prt_eq.mp (congrArg (fun g : GSem nD τ sig => g.1.1) h1))), if_neg h]

theorem owed_bar (d c : Dev nD) : O₀ d (bcell c) () = (if d = prt 2 c then 1 else 0) + (if d = prt 1 c then 1 else 0) + (if d = prt 0 c then 1 else 0) := by
  unfold O₀ O2 O1
  simp only [Pi.add_apply, Finsupp.add_apply]
  rw [owe_bar, bar_unit, bar_unit, bar_unit, Nat.zero_add]

theorem owe_recv (k : Fin 6) (d c : Dev nD) : ∀ n, n ≤ 6 → owe d n (rcell k c) () = if 6 ≤ n + k.val ∧ d = prt (axis k) c then amt k else 0
  | 0, _ => by rw [if_neg (fun h => by have := k.isLt; omega)]; rfl
  | n + 1, hn => by
    unfold owe
    rw [Pi.add_apply, Finsupp.add_apply, owe_recv k d c n (by omega), tallyAt_apply]
    have hp : (ph n).val = 5 - n := rfl
    by_cases hk : k = ph n
    · subst hk
      rw [if_neg (fun h => by omega)]
      by_cases h : d = prt (axis (ph n)) c
      · rw [if_pos ⟨congrArg (rcell (ph n)) (prt_eq.mpr h), rfl⟩, if_pos ⟨by omega, h⟩, Nat.zero_add]
      · rw [if_neg (fun h' => h (prt_eq.mp (rcell_inj h'.1).2)), if_neg (fun h' => h h'.2)]
    · have hz : ¬ (rcell k c = rcell (ph n) (prt (axis (ph n)) d) ∧ () = ()) := fun h' => hk (rcell_inj h'.1).1
      rw [if_neg hz, Nat.add_zero]
      have hne : k.val ≠ 5 - n := fun h => hk (Fin.ext (h.trans hp.symm))
      have hk6 := k.isLt
      exact if_congr (⟨fun h => ⟨by omega, h.2⟩, fun h => ⟨by omega, h.2⟩⟩) rfl rfl

theorem owed_recv (k : Fin 6) (d c : Dev nD) : O₀ d (rcell k c) () = if d = prt (axis k) c then amt k else 0 := by
  unfold O₀ O2 O1
  simp only [Pi.add_apply, Finsupp.add_apply]
  rw [owe_recv k d c 6 (by omega), tallyAt_ne_cell (rcell_ne_bcell k c _), tallyAt_ne_cell (rcell_ne_bcell k c _),
    tallyAt_ne_cell (rcell_ne_bcell k c _), Finsupp.zero_apply, Nat.add_zero, Nat.add_zero, Nat.add_zero]
  exact if_congr ⟨fun h => h.2, fun h => ⟨by omega, h⟩⟩ rfl rfl

theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (prt 2 c) fun _ => 1, Finset.sum_ite_eq' Finset.univ (prt 1 c) fun _ => 1, Finset.sum_ite_eq' Finset.univ (prt 0 c) fun _ => 1]
  simp only [Finset.mem_univ, if_true]

theorem launch_recv (k : Fin 6) (c : Dev nD) :
    tallyOn (rcell k c) (launchCredit (Pipeline.owing O₀) 0 (rcell k c)) = (tallyAt (rcell k c) () (amt k) : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (prt (axis k) c) fun _ => amt k, if_pos (Finset.mem_univ _)]

abbrev crB (c : Dev nD) : sProp 𝕄 := cred (tallyAt (bcell c) () 3)
abbrev crR (k : Fin 6) (c : Dev nD) : sProp 𝕄 := cred (tallyAt (rcell k c) () (amt k))

omit [FloatOps F] [Named F] in
theorem creds (c : Dev nD) :
    (Pipeline.launchCred O₀ c : sProp 𝕄) ⊢ iprop(crB c ∗ crR 0 c ∗ crR 1 c ∗ crR 2 c ∗ crR 3 c ∗ crR 4 c ∗ crR 5 c) := by
  unfold Pipeline.launchCred
  refine (bigSep_subset (Finset.subset_univ ([.reg barS, .dma (rS 0), .dma (rS 1), .dma (rS 2), .dma (rS 3), .dma (rS 4), .dma (rS 5)] : List (SemLoc sig)).toFinset)).trans ?_
  rw [bigSep_eq_bigSepL_of_eq _ rfl (by decide)]
  show iprop(cred (tallyOn (bcell c) (launchCredit (Pipeline.owing O₀) 0 (bcell c))) ∗ cred (tallyOn (rcell 0 c) (launchCredit (Pipeline.owing O₀) 0 (rcell 0 c)))
    ∗ cred (tallyOn (rcell 1 c) (launchCredit (Pipeline.owing O₀) 0 (rcell 1 c))) ∗ cred (tallyOn (rcell 2 c) (launchCredit (Pipeline.owing O₀) 0 (rcell 2 c)))
    ∗ cred (tallyOn (rcell 3 c) (launchCredit (Pipeline.owing O₀) 0 (rcell 3 c))) ∗ cred (tallyOn (rcell 4 c) (launchCredit (Pipeline.owing O₀) 0 (rcell 4 c)))
    ∗ cred (tallyOn (rcell 5 c) (launchCredit (Pipeline.owing O₀) 0 (rcell 5 c)))) ⊢ _
  rw [launch_bar, launch_recv, launch_recv, launch_recv, launch_recv, launch_recv, launch_recv]

end Cert.Attn
end
end
-- ==== Proof.Launch.lean ====
/- The program on one device as three segments: the host's re-laying, the kernel's region, the host's re-laying of the result. -/
module

public import proofs.«01_k».proof.Proof.Seeds
public import Idealize.ShloMosaic.Lib.Pipeline.RegionTalk

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The buffers of the program, segment by segment -/

/-- The buffers that outlive the region. -/
def bufs : Finset (DevRef τ sig) := (StableHlo.tcRefs τ sig).filter fun b => ¬ b.isScoped

omit [FloatOps F] [Named F] in
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem sub_bufs (op : HloOp τ sig (Elt F)) (h : op.bufs ⊆ StableHlo.tcRefs τ sig) : op.bufs ⊆ bufs := fun b hb =>
  Finset.mem_filter.mpr ⟨h hb, fun h' => Bool.false_ne_true ((op.no_scoped b hb).symm.trans h')⟩

abbrev V₀ (c : Dev nD) : Valuation τ sig (Elt F) := fun b => m (c, b)
/-- After the region: the result's array written. -/
def V₂ (c : Dev nD) : Valuation τ sig (Elt F) := Function.update (V0 m c) (Proc.devRef .tc main_v4) (total m c)
/-- At the end: the result re-laid. -/
def V₃ (c : Dev nD) : Valuation τ sig (Elt F) := StableHlo.after hostOps1 (V₂ m c)

/-! ## What rides beside the buffers -/

def Tk (c : Dev nD) : sProp 𝕄 := iprop((∃ κ, records (part m) κ) ∗ seeds c)
def R (c : Dev nD) : sProp 𝕄 := iprop(Tk m c ∗ (∃ r, prngReg c r) ∗ ∃ W, owes (c : Thread nD τ) (O₀ c) W)
def R' (c : Dev nD) : sProp 𝕄 := iprop(semVal (bcell c) 0 ∗ (∃ r, prngReg c r) ∗ ∃ W, owes (c : Thread nD τ) (0 : CellTallies nD τ sig Unit) W)

abbrev adm : (p : Fin 1) → (pcfgs (F := F) p).Adm := fun p => (cfgs p).toPCfg_adm
local notation "ℍ" => Pipeline.HostSeg (Name := ℕ) (U := UU) (pcfgs (F := F)) defs₀ 𝒱₀ L lv

def seg0 : ℍ :=
  Pipeline.HostSeg.ofOps _ _ _ _ _ bufs hostOps0 (fun op h => sub_bufs op ((List.forall_iff_forall_mem.mp hostOps0_sub) op h))
    (fun op h => (List.forall_iff_forall_mem.mp hostOps0_fresh) op h) (V₀ m) (R m)
def seg1 : ℍ :=
  Pipeline.HostSeg.ofOps _ _ _ _ _ bufs hostOps1 (fun op h => sub_bufs op ((List.forall_iff_forall_mem.mp hostOps1_sub) op h))
    (fun op h => (List.forall_iff_forall_mem.mp hostOps1_fresh) op h) (V₂ m) R'

/-! ## The region -/

/-- The two arguments the body addresses itself; the buffers that are no window's array. -/
def Hs : Finset (DevRef τ sig) := {Proc.devRef .tc main_arg1, Proc.devRef .tc main_arg4}
def Ar : Finset (DevRef τ sig) := Pipeline.arrRefs (τ := τ) (pcfgs (F := F) 0).spec
theorem Ar_eq : (Ar (F := F)) = {Proc.devRef .tc main_v1, Proc.devRef .tc main_v2, Proc.devRef .tc main_v3, Proc.devRef .tc main_v4} := by
  show Pipeline.arrRefs (τ := τ) spec0 = _
  decide
theorem Ar_sub : (Ar (F := F)) ⊆ bufs := by rw [Ar_eq]; decide
def Sr : Finset (DevRef τ sig) := bufs \ {Proc.devRef .tc main_v1, Proc.devRef .tc main_v2, Proc.devRef .tc main_v3, Proc.devRef .tc main_v4}
theorem Hs_sub : Hs ⊆ Sr := by decide

omit [FloatOps F] [Named F] in
theorem held_Hs (c : Dev nD) (W : Valuation τ sig (Elt F)) : (StableHlo.held (c : Thread nD τ) Hs W : sProp 𝕄)
    = iprop(wPts (Memref.whole main_arg1) c (W (Proc.devRef .tc main_arg1)) ∗ wPts (Memref.whole main_arg4) c (W (Proc.devRef .tc main_arg4))) := by
  unfold StableHlo.held
  rw [bigSep_eq_bigSepL_of_eq [Proc.devRef .tc main_arg1, Proc.devRef .tc main_arg4] (by decide) (by decide)]
  rfl

theorem V₂_of_ne (c : Dev nD) {b : DevRef τ sig} (h : b ≠ Proc.devRef .tc main_v4) : V₂ m c b = V0 m c b :=
  Function.update_of_ne h _ _

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (dats m 0 c).share w = fullShare := by
  unfold Dat.share; split <;> rfl

theorem open_all (c : Dev nD) : iprop(Tk m c ∗ Pipeline.ownSems0 osem c ∗ levAts L lv) ⊢ (|={Set.univ}=> talk m c : sProp 𝕄) := by
  rw [ownSems0_eq]
  unfold Tk seeds barSeed talk barKit gears
  iintro ⟨⟨⟨%κ, #HR⟩, ⟨Ha, Hc, Ht0, Ht1, Ht2⟩, D0, D1, D2, D3, D4, D5⟩, ⟨L4, L5, S0, S1, S2, S3, S4, S5, R0, R1, R2, R3, R4, R5⟩, #HL⟩
  imod (open_phase (part m) κ 0 c) $$ [D0 S0 R0] with ⟨G0, Z0⟩
  · isplitr; · iexact HR
    isplitl [D0]; · iexact D0
    isplitl [S0]; · iexact S0
    iexact R0
  imod (open_phase (part m) κ 1 c) $$ [D1 S1 R1] with ⟨G1, Z1⟩
  · isplitr; · iexact HR
    isplitl [D1]; · iexact D1
    isplitl [S1]; · iexact S1
    iexact R1
  imod (open_phase (part m) κ 2 c) $$ [D2 S2 R2] with ⟨G2, Z2⟩
  · isplitr; · iexact HR
    isplitl [D2]; · iexact D2
    isplitl [S2]; · iexact S2
    iexact R2
  imod (open_phase (part m) κ 3 c) $$ [D3 S3 R3] with ⟨G3, Z3⟩
  · isplitr; · iexact HR
    isplitl [D3]; · iexact D3
    isplitl [S3]; · iexact S3
    iexact R3
  imod (open_phase (part m) κ 4 c) $$ [D4 S4 R4] with ⟨G4, Z4⟩
  · isplitr; · iexact HR
    isplitl [D4]; · iexact D4
    isplitl [S4]; · iexact S4
    iexact R4
  imod (open_phase (part m) κ 5 c) $$ [D5 S5 R5] with ⟨G5, Z5⟩
  · isplitr; · iexact HR
    isplitl [D5]; · iexact D5
    isplitl [S5]; · iexact S5
    iexact R5
  imodintro
  isplitr; · iexists κ; iexact HR
  isplitr; · iexact HL
  isplitl [Ha Hc Ht0 Ht1 Ht2 Z0 Z1 Z2 Z3 Z4 Z5]
  · isplitl [Ha]; · iexact Ha
    isplitl [Hc]; · iexact Hc
    isplitl [Ht0]; · iexact Ht0
    isplitl [Ht1]; · iexact Ht1
    isplitl [Ht2]; · iexact Ht2
    isplitl [Z0]; · iexact Z0
    isplitl [Z1]; · iexact Z1
    isplitl [Z2]; · iexact Z2
    isplitl [Z3]; · iexact Z3
    isplitl [Z4]; · iexact Z4
    iexact Z5
  isplitl [G0 G1 G2 G3 G4 G5]
  · isplitl [G0]; · iexact G0
    isplitl [G1]; · iexact G1
    isplitl [G2]; · iexact G2
    isplitl [G3]; · iexact G3
    isplitl [G4]; · iexact G4
    iexact G5
  isplitl [L4]; · iexact L4
  iexact L5

theorem region_in (c : Dev nD) : iprop(Pipeline.scopedRest (Pipeline.pin (pcfgs (F := F)) adm 0).spec c ∗ (∃ r, prngReg c r)
      ∗ StableHlo.held (c.tc : Thread nD τ) Hs (V0 m c) ∗ talk m c)
    ⊢ (dats m 0 c).Φ 0 := by
  rw [show (dats m 0 c).Φ 0 = Φin m c from rfl, held_Hs, show (Pipeline.scopedRest (Pipeline.pin (pcfgs (F := F)) adm 0).spec c : sProp 𝕄) = rest c from rest_eq c]
  unfold Φin
  iintro ⟨Hr, Hp, HH, HT⟩
  isplitl [HT]; · iexact HT
  isplitl [HH]; · iexact HH
  isplitl [Hr]; · iexact Hr
  iexact Hp

theorem region_out (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
      ∗ Pipeline.ownSems0 osem c ∗ semVal (bcell c) 0) := by
  rw [show (dats m 0 c).Φ (Fin.last _) = Φout m c from rfl, held_Hs, show (Pipeline.scopedRest (Pipeline.pin (pcfgs (F := F)) adm 0).spec c : sProp 𝕄) = rest c from rest_eq c,
    ownSems0_eq, V₂_of_ne m c (by decide), V₂_of_ne m c (by decide)]
  unfold Φout
  iintro ⟨Hb, ⟨⟨L4, L5⟩, ⟨S0, S1, S2, S3, S4, S5⟩, HR⟩, HH, Hr, Hp⟩
  isplitl [Hr]; · iexact Hr
  isplitl [Hp]; · iexact Hp
  isplitl [HH]; · iexact HH
  isplitr [Hb]
  · isplitl [L4]; · iexact L4
    isplitl [L5]; · iexact L5
    isplitl [S0]; · iexact S0
    isplitl [S1]; · iexact S1
    isplitl [S2]; · iexact S2
    isplitl [S3]; · iexact S3
    isplitl [S4]; · iexact S4
    isplitl [S5]; · iexact S5
    iexact HR
  iexact Hb

theorem cut (c : Dev nD) (t : Fin (cfg0.N + 1)) (g : GSem nD τ sig) (i : Unit) (h : 0 < (dats (F := F) m 0 c).owed t g i) :
    i ∈ L g ∧ (0 : ℕ) < lv g i := by
  have e : (dats (F := F) m 0 c).owed t = if t.val = 0 then O₀ c else 0 := rfl
  rw [e] at h
  split at h
  · rcases O₀_pos h with ⟨k, rfl⟩ | ⟨a, rfl⟩
    · exact ⟨by rw [L_tc]; exact Finset.mem_singleton_self _, by rw [lv_recv]; omega⟩
    · exact ⟨by rw [L_tc]; exact Finset.mem_singleton_self _, Nat.one_pos⟩
  · exact absurd h (Nat.lt_irrefl 0)

theorem stage_low : ∀ (c : Dev nD) (w : Fin 4) (s : Fin (spec0 w).nbuf), lv ((c : Thread nD τ), SemLoc.dma ((spec0 w).sem s)) () ≤ 0 := by decide

theorem arr_in (c : Dev nD) (w : Fin cfg0.W) : (dats m 0 c).arrAt w 0 = V0 m c (Proc.devRef .tc (Pipeline.arrRef spec0 w)) := A_eq m c w

theorem arr_out (c : Dev nD) : ∀ w : Fin cfg0.W, (dats m 0 c).arrAt w cfg0.N = V₂ m c (Proc.devRef .tc (Pipeline.arrRef spec0 w))
  | ⟨0, _⟩ => (((dats m 0 c).arrAt_in 0 rfl _).trans (A_eq m c 0)).trans (V₂_of_ne m c (by decide)).symm
  | ⟨1, _⟩ => (((dats m 0 c).arrAt_in 1 rfl _).trans (A_eq m c 1)).trans (V₂_of_ne m c (by decide)).symm
  | ⟨2, _⟩ => (((dats m 0 c).arrAt_in 2 rfl _).trans (A_eq m c 2)).trans (V₂_of_ne m c (by decide)).symm
  | ⟨3, _⟩ => (arrAt_3 m c).trans (Function.update_self (Proc.devRef .tc main_v4 : DevRef τ sig) (total m c) (V0 m c)).symm

set_option backward.isDefEq.respectTransparency.types false in
def reg0 : Pipeline.RegionSeg (pcfgs (F := F)) adm (dats m) () defs₀ 𝒱₀ L lv 0 :=
  Pipeline.RegionSeg.ofTalk (pcfgs (F := F)) adm (dats m) () defs₀ 𝒱₀ L lv 0 osem ownSemFacts
    Hs Sr Hs_sub kit rfl (fun c => (body_obligation m c).loose)
    (fun _ => 0) O₀ (fun c => (show (dats m 0 c).owed 0 = 0 + O₀ c from (zero_add (O₀ c)).symm)) (fun _ => rfl) (fun _ => rfl) (share_eq m)
    (V0 m) (V₂ m) (fun c b hb => V₂_of_ne m c fun h => by subst h; revert hb; decide)
    (Tk m) (fun c => semVal (bcell c) 0) (talk m) (fun c => semVal (bcell c) 0) (open_all m) (region_in m) (region_out m)
    (fun c => by iintro H; imodintro; iexact H)
    (fun _ => 0)
    ⟨fun c w s => by rw [L_tc]; exact Finset.mem_singleton_self _, stage_low, fun c t g i h => cut m c t g i h⟩
    (fun _ => iprop(emp))
    (arr_in m) (arr_out m)

/-- The buffers a window's array is, and the others. -/
theorem bufs_cut (c : Dev nD) (W : Valuation τ sig (Elt F)) :
    (StableHlo.held (c : Thread nD τ) bufs W : sProp 𝕄)
      = iprop(StableHlo.held (c : Thread nD τ) (Pipeline.arrRefs (τ := τ) (pcfgs (F := F) 0).spec) W ∗ StableHlo.held (c : Thread nD τ) Sr W) := by
  rw [StableHlo.held_sub_split (c : Thread nD τ) (Ar_sub (F := F)) W, show bufs \ Ar (F := F) = Sr from by rw [Ar_eq]; rfl]
  rfl

theorem reg0_pre (c : Dev nD) : iprop(StableHlo.held (c : Thread nD τ) bufs (V0 m c) ∗ R m c) ⊢ (reg0 m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) Sr (V0 m c) ∗ emp) ∗ Tk m c ∗ ∃ Wd, owes (c : Thread nD τ) (0 + O₀ c) Wd)
  rw [bufs_cut, zero_add]
  unfold R
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg0_post (c : Dev nD) : (reg0 m).post c ⊢ iprop(StableHlo.held (c : Thread nD τ) bufs (V₂ m c) ∗ R' c) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ semVal (bcell c) 0 ∗ ∃ Wd, owes (c : Thread nD τ) (0 : CellTallies nD τ sig Unit) Wd) ⊢ _
  rw [bufs_cut]
  unfold R'
  iintro ⟨Ha, Hp, ⟨Hs, -⟩, Hb, HO⟩
  isplitl [Ha Hs]
  · isplitl [Ha]; · iexact Ha
    iexact Hs
  isplitl [Hb]; · iexact Hb
  isplitl [Hp]; · iexact Hp
  iexact HO

abbrev segs : List (Pipeline.Seg (pcfgs (F := F)) adm (dats m) () defs₀ 𝒱₀ L lv) := [.host (seg0 m), .region (reg0 m), .host (seg1 m)]

end Cert.Attn
end
end
-- ==== Proof.Run.lean ====
/- The launch of the program on all the devices, and its run. -/
module

public import proofs.«01_k».proof.Proof.Launch
public import Idealize.ShloMosaic.Harness.Basic
public import Idealize.ShloMosaic.Lib.Quiescent

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)
open Idealize.ShloMosaic.Smoke (bigSep_pair bigSep_unpair)

variable (m : (ℓ : Loc nD τ sig) → Buf (Elt F) ℓ) (ρ : Dev nD → PrngReg)

/-! ## The launch -/

omit [FloatOps F] [Named F] in
theorem unscopedSems0_eq (c : Dev nD) : (unscopedSems0 c : sProp 𝕄) = semVal (bcell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- The launch element: the staging cells' and the exchange's. -/
def u₀ : UU :=
  (initOf (Pipeline.cells (Pipeline.pin (pcfgs (F := F)) adm) cellOf_inj) (Pipeline.launchToks (Pipeline.pin (pcfgs (F := F)) adm) cellOf_inj),
    (launchOf barCells xCells toks, 1))

/-- The exchange's launch element, whole, which one device keeps until the devices deal it out. -/
abbrev deck : sProp 𝕄 := BI.own (ER (launchOf barCells xCells toks))
def G (c : Dev nD) : sProp 𝕄 := if c = 0 then deck else iprop(emp)

omit [FloatOps F] [Named F] in
theorem G_all : bigSep Finset.univ (G (F := F)) = deck := by
  rw [bigSep_univ_at _ (0 : Dev nD), bigSep_congr (s := Finset.univ.erase (0 : Dev nD)) (Ψ := fun _ => (BI.emp : sProp 𝕄)) fun c hc => by unfold G; rw [if_neg (Finset.ne_of_mem_erase hc)]; rfl,
    BI.bigSep_emp_const]
  unfold G; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ semVal (bcell c) 0)

/-- What of a device's launch holdings is not the exchange's ghost state. -/
def plain (c : Dev nD) : sProp 𝕄 :=
  iprop(StableHlo.held (c : Thread nD τ) bufs (V₀ m c) ∗ (crB c ∗ crR 0 c ∗ crR 1 c ∗ crR 2 c ∗ crR 3 c ∗ crR 4 c ∗ crR 5 c)
    ∗ owes (c : Thread nD τ) (O₀ c) ∅ ∗ ∃ r, prngReg c r)

abbrev opS (k : Fin 6) (c : Dev nD) : sProp 𝕄 := openTok ER (scell k c)
abbrev opR (k : Fin 6) (c : Dev nD) : sProp 𝕄 := openTok ER (rcell k c)

/-- What of the exchange's ghost state one device uses. -/
def hand (c : Dev nD) : sProp 𝕄 :=
  iprop(atPos ER (bcell c) 0 ∅ 0
    ∗ (opS 0 c ∗ opS 1 c ∗ opS 2 c ∗ opS 3 c ∗ opS 4 c ∗ opS 5 c ∗ opR 0 c ∗ opR 1 c ∗ opR 2 c ∗ opR 3 c ∗ opR 4 c ∗ opR 5 c)
    ∗ (tokB 0 (prt 0 c) ∗ tokB 1 (prt 1 c) ∗ tokB 2 (prt 2 c) ∗ tokS 0 c ∗ tokS 1 c ∗ tokS 2 c ∗ tokS 3 c ∗ tokS 4 c ∗ tokS 5 c
        ∗ tokR 0 (prt (axis 0) c) ∗ tokR 1 (prt (axis 1) c) ∗ tokR 2 (prt (axis 2) c) ∗ tokR 3 (prt (axis 3) c) ∗ tokR 4 (prt (axis 4) c) ∗ tokR 5 (prt (axis 5) c)))

theorem hand_intro (κ : GSem nD τ sig → ℕ) (c : Dev nD) : iprop(records (part m) κ ∗ (hand c ∗ plain m c)) ⊢ T₀ m c := by
  unfold hand plain T₀ R Tk seeds barSeed seed
  iintro ⟨#HR, ⟨Ha, ⟨S0, S1, S2, S3, S4, S5, R0, R1, R2, R3, R4, R5⟩, B0, B1, B2, s0, s1, s2, s3, s4, s5, r0, r1, r2, r3, r4, r5⟩,
    Hh, ⟨cB, c0, c1, c2, c3, c4, c5⟩, HO, Hp⟩
  isplitl [Hh]; · iexact Hh
  isplitr [HO Hp]
  · isplitr; · iexists κ; iexact HR
    isplitl [Ha cB B0 B1 B2]
    · isplitl [Ha]; · iexact Ha
      isplitl [cB]; · iexact cB
      isplitl [B0]; · iexact B0
      isplitl [B1]; · iexact B1
      iexact B2
    isplitl [S0 R0 s0 r0 c0]
    · isplitl [S0]; · iexact S0
      isplitl [R0]; · iexact R0
      isplitl [s0]; · iexact s0
      isplitl [r0]; · iexact r0
      iexact c0
    isplitl [S1 R1 s1 r1 c1]
    · isplitl [S1]; · iexact S1
      isplitl [R1]; · iexact R1
      isplitl [s1]; · iexact s1
      isplitl [r1]; · iexact r1
      iexact c1
    isplitl [S2 R2 s2 r2 c2]
    · isplitl [S2]; · iexact S2
      isplitl [R2]; · iexact R2
      isplitl [s2]; · iexact s2
      isplitl [r2]; · iexact r2
      iexact c2
    isplitl [S3 R3 s3 r3 c3]
    · isplitl [S3]; · iexact S3
      isplitl [R3]; · iexact R3
      isplitl [s3]; · iexact s3
      isplitl [r3]; · iexact r3
      iexact c3
    isplitl [S4 R4 s4 r4 c4]
    · isplitl [S4]; · iexact S4
      isplitl [R4]; · iexact R4
      isplitl [s4]; · iexact s4
      isplitl [r4]; · iexact r4
      iexact c4
    isplitl [S5]; · iexact S5
    isplitl [R5]; · iexact R5
    isplitl [s5]; · iexact s5
    isplitl [r5]; · iexact r5
    iexact c5
  isplitl [Hp]; · iexact Hp
  iexists ∅; iexact HO

/-- One device's holdings, the exchange's ghost state set apart. -/
theorem core_split (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (bcell c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold plain
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

omit [FloatOps F] [Named F] in
theorem deal_open : bigSep xCells (fun g => (openTok ER g : sProp 𝕄)) = bigSep Finset.univ fun c : Dev nD =>
    iprop(opS 0 c ∗ opS 1 c ∗ opS 2 c ∗ opS 3 c ∗ opS 4 c ∗ opS 5 c ∗ opR 0 c ∗ opR 1 c ∗ opR 2 c ∗ opR 3 c ∗ opR 4 c ∗ opR 5 c) := by
  rw [bigSep_map, bigSep_univ_prod]
  exact bigSep_congr fun c _ => by
    rw [bigSep_univ_eq_bigSepL [0, 1, 2, 3, 4, 5, 6, 7, 8, 9, 10, 11] (by decide) (by decide)]; rfl

/-- The launch: the exchange's element funds every cell's record; rights, positions and tokens go to the devices that use them. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (bcell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bcell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (bcell c) 0 ∗ G c)) : sProp 𝕄) from bigSep_mono fun c _ => core_split m ρ c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Rounds.fund_launch ER (sched (part m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (part m) κ) (Φ := fun c => iprop(hand c ∗ plain m c)) fun c _ => hand_intro m κ c)
  isplitr
  · unfold records
    isplitr; · iexact Hinv
    iexact Hr
  iapply bigSep_pair
  isplitr [HB]
  · unfold hand
    iapply bigSep_pair; isplitl [Hat]; · iapply hat $$ Hat
    iapply bigSep_pair; isplitl [Hopen]; · iapply (Entails.of_eq (deal_open (F := F))) $$ Hopen
    iapply (Entails.of_eq (toks_around (F := F)))
    iapply (Entails.of_eq (toks_eq (F := F))) $$ Htok
  · iexact HB

/-! ## What the buffers hold at the end -/

theorem V₃_of_ne (c : Dev nD) {b : Ref sig .tc} (h : b ≠ main_v4 ∧ b ≠ main_v5) : V₃ m c (Proc.devRef .tc b) = V m c b := by
  unfold V₃
  rw [StableHlo.after_of_forall_not_mem (b := Proc.devRef .tc b) _ _ (List.forall_iff_forall_mem.mp (by
      simp only [hostOps1, List.Forall, StableHlo.reshape_writes, Finset.mem_singleton]
      exact StableHlo.devRef_ne_of_ne h.2)),
    V₂_of_ne m c (StableHlo.devRef_ne_of_ne h.1)]

theorem V₃_out (c : Dev nD) : V₃ m c (Proc.devRef .tc main_v5) = shapeCast S1x2048x1024 (total m c) shapeCasts_S2048x1024_S1x2048x1024 := by
  unfold V₃
  rw [StableHlo.after_cons, StableHlo.after_nil, StableHlo.reshape_result]
  funext i
  show shapeCast S1x2048x1024 (V₂ m c (Proc.devRef .tc main_v4)) _ i = _
  unfold V₂
  rw [Function.update_self]

omit [FloatOps F] [Named F] in
theorem bufs_eq (c : Dev nD) (W : Valuation τ sig (Elt F)) : (StableHlo.held (c : Thread nD τ) bufs W : sProp 𝕄)
    = iprop(wPts (Memref.whole main_arg0) c (W (Proc.devRef .tc main_arg0)) ∗ wPts (Memref.whole main_arg1) c (W (Proc.devRef .tc main_arg1))
      ∗ wPts (Memref.whole main_arg2) c (W (Proc.devRef .tc main_arg2)) ∗ wPts (Memref.whole main_arg3) c (W (Proc.devRef .tc main_arg3))
      ∗ wPts (Memref.whole main_arg4) c (W (Proc.devRef .tc main_arg4)) ∗ wPts (Memref.whole main_v5) c (W (Proc.devRef .tc main_v5))
      ∗ wPts (Memref.whole main_v1) c (W (Proc.devRef .tc main_v1)) ∗ wPts (Memref.whole main_v2) c (W (Proc.devRef .tc main_v2))
      ∗ wPts (Memref.whole main_v3) c (W (Proc.devRef .tc main_v3)) ∗ wPts (Memref.whole main_v4) c (W (Proc.devRef .tc main_v4))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v5, Proc.devRef .tc main_v1, Proc.devRef .tc main_v2, Proc.devRef .tc main_v3, Proc.devRef .tc main_v4] (by decide) (by decide)]
  rfl

/-- The six buffers a claim speaks of, read at the end. -/
def Reads (c : Dev nD) (s : MemSt nD τ sig (Elt F)) : Prop :=
  (∀ b ∈ ([main_arg0, main_arg1, main_arg2, main_arg3, main_arg4, main_v5] : List (Ref sig .tc)), s.mem ((c : Thread nD τ).loc b) = V₃ m c (Proc.devRef .tc b))
    ∧ s.sem (bcell c) = 0

theorem reads (c : Dev nD) (s' : Phys nD τ sig (Elt F)) : iprop(Tₙ m c ∗ SI s') ⊢ (|={Set.univ}=> iprop(⌜Reads m c s'.mem⌝ ∗ SI s') : sProp 𝕄) := by
  dsimp only [Tₙ]; rw [bufs_eq]
  iintro ⟨⟨⟨H0, H1, H2, H3, H4, H5, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    refine ⟨?_, by simpa using hb⟩
    intro b hb'
    simp only [List.mem_cons, List.mem_nil_iff, or_false] at hb'
    rcases hb' with rfl | rfl | rfl | rfl | rfl | rfl
    · exact Buf.eq_of_forall_mem_univ h0
    · exact Buf.eq_of_forall_mem_univ h1
    · exact Buf.eq_of_forall_mem_univ h2
    · exact Buf.eq_of_forall_mem_univ h3
    · exact Buf.eq_of_forall_mem_univ h4
    · exact Buf.eq_of_forall_mem_univ h5
  iexact HSI

/-! ## The run -/

theorem chain_end (c : Dev nD) : iprop(StableHlo.held (c : Thread nD τ) bufs (V₃ m c) ∗ R' c)
    ⊢ (iprop(Tₙ m c ∗ ∃ W, owes (c : Thread nD τ) (0 : CellTallies nD τ sig Unit) W) : sProp 𝕄) := by
  unfold R'
  iintro ⟨Hh, Hb, -, HO⟩
  isplitr [HO]
  · isplitl [Hh]; · iexact Hh
    iexact Hb
  · iexact HO

set_option backward.isDefEq.respectTransparency.types false in
/-- From any memory with zero counters every fair execution of the program on the eight devices ends; then the five arguments are as launched, the result
    is the total re-laid, and every counter is zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v5) = shapeCast S1x2048x1024 (total m c) shapeCasts_S2048x1024_S1x2048x1024)
      ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c, fun c => chain_end m c⟩)
    (hinit := init m ρ)
    (QY := Reads m)
    (hfin := reads m)
    (hQ := fun s h hs => ⟨fun c => by
        have hr := (h c).1
        refine ⟨⟨?_, ?_, ?_, ?_, ?_⟩, (hr main_v5 (by simp)).trans (V₃_out m c)⟩
        · exact (hr main_arg0 (by simp)).trans ((V₃_of_ne m c (by decide)).trans (V_main_arg0 m c))
        · exact (hr main_arg1 (by simp)).trans ((V₃_of_ne m c (by decide)).trans (V_main_arg1 m c))
        · exact (hr main_arg2 (by simp)).trans ((V₃_of_ne m c (by decide)).trans (V_main_arg2 m c))
        · exact (hr main_arg3 (by simp)).trans ((V₃_of_ne m c (by decide)).trans (V_main_arg3 m c))
        · exact (hr main_arg4 (by simp)).trans ((V₃_of_ne m c (by decide)).trans (V_main_arg4 m c)),
      sem_eq_zero hs fun c sm hsm => by
        obtain rfl := unscoped_eq sm hsm
        exact (h c).2⟩)

end Cert.Attn
end
end
-- ==== Proof.Frames.lean ====
/- The frames of the kernel's two readings, and the named constant. -/
module

public import proofs.«01_k».proof.Proof.Run
public import proofs.«01_k».proof.Defs
public import proofs.«01_k».proof.Proof.Gen.Kernel

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The named mask read at the hardware's floats: the literal itself. -/
instance named_bits : Named Bits := ⟨fun _ _ {φ} b => FloatOps.ofBits φ b⟩

theorem frame_ideal : Cert.quiescent_KernelIdeal := fun m ρ _ =>
  (θ_run Cert.KernelIdeal.defs _ _).mono (fun _ h => ⟨fun c => (h.1 c).1, h.2⟩) (run_main (F := Ideal) m ρ)

theorem preserved : Cert.preserves_Kernel_KernelIdeal := IdealRules.named_const.statement Cert.KernelIdeal.κ "mask" .f32 _ ⊥ rfl

end Cert.Attn
end
end
-- ==== Proof.FrameKernel.lean ====
/- The frame of the kernel as printed. -/
module

public import proofs.«01_k».proof.Proof.Frames

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem printed_main : Cert.Kernel.main (F := Bits) = Cert.KernelIdeal.main (F := Bits) := rfl
set_option maxRecDepth 100000 in
set_option maxHeartbeats 400000 in
theorem printed_body : Cert.Kernel.cc0_body (F := Bits) = Cert.KernelIdeal.cc0_body (F := Bits) := rfl
theorem printed_defs₀ : Cert.Kernel.defs₀ (F := Bits) = Cert.KernelIdeal.defs₀ (F := Bits) := by
  unfold Cert.Kernel.defs₀ Cert.KernelIdeal.defs₀
  refine congrArg Defs.onTc ?_
  funext l ts
  match l, ts with
  | 0, (t, s) => exact rfl
theorem printed_defs : Cert.Kernel.defs (F := Bits) = Cert.KernelIdeal.defs (F := Bits) :=
  congrArg (Pipeline.defs (Cert.KernelIdeal.pcfgs (F := Bits))) printed_defs₀

theorem frame_kernel : Cert.quiescent_Kernel := fun m ρ _ => by
  have h := (θ_run Cert.KernelIdeal.defs _ _).mono (Q' := fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))) ∧ r.2.sem = fun _ => 0)
    (fun _ h => ⟨fun c => (h.1 c).1, h.2⟩) (run_main (F := Bits) m ρ)
  rw [printed_defs, printed_main]
  exact h

end Cert.Attn
end
end
-- ==== Proof.FrameReference.lean ====
/- The plain program on one device: it ends, leaves its arguments as they were and every counter at zero. -/
module

public import proofs.«01_k».proof.Defs
public import proofs.«01_k».proof.Proof.Gen.ReferenceIdeal.Run
public import Idealize.ShloMosaic.Lib.Quiescent

@[expose] public section

noncomputable section

namespace Cert.Attn
open Idealize.ShloMosaic Idealize.SL.Sem

/-- The reference has no counters at all, so its run, which keeps the arguments, is its whole frame. -/
theorem frame_reference [h : Cert.ReferenceIdeal.Facts] : Cert.quiescent_ReferenceIdeal := fun m g _ =>
  (θ_run Cert.ReferenceIdeal.defs _ _).mono
    (fun _ h => ⟨fun c => (h c).2, sem_eq_zero_of_no_sems (by decide) _⟩) (Cert.ReferenceIdeal.Value.run m g)

end Cert.Attn

end
-- ==== Proof.Softmax.lean ====
/- One row of masked softmax attention over the extended reals, and the fact that keys outside a window that holds every
   kept key may be left out. -/
module

public import Idealize.ShloMosaic.Lib.Pointwise

@[expose] public section

noncomputable section

namespace Cert.Attn
open Idealize.ShloMosaic
open scoped BigOperators

/-- A score where its key is kept, minus infinity where not. -/
def kept (b : BitVec 1) (s : EReal) : EReal := Scalar.select b s ⊥

theorem kept_one (s : EReal) : kept 1#1 s = s := by simp [kept, Scalar.select]
theorem kept_zero (s : EReal) : kept 0#1 s = ⊥ := by simp [kept, Scalar.select]

/-- The largest kept score of a row. -/
def peak {n : ℕ} (keep : Fin n → BitVec 1) (s : Fin n → EReal) : EReal :=
  Finset.univ.fold max ⊥ fun j => kept (keep j) (s j)

/-- A key's weight before it is divided by the row's sum. -/
def lift {n : ℕ} (keep : Fin n → BitVec 1) (s : Fin n → EReal) (j : Fin n) : EReal :=
  Ideal.exp (kept (keep j) (s j) - peak keep s)

/-- One row of attention: the values `v` under the softmax of the kept scores. -/
def attend {n : ℕ} (keep : Fin n → BitVec 1) (s v : Fin n → EReal) : EReal :=
  ∑ j, Ideal.div (lift keep s j) (∑ k, lift keep s k) * v j

/-- The largest kept score is reached at a kept key. -/
theorem peak_mem {n : ℕ} (keep : Fin n → BitVec 1) (s : Fin n → ℝ) {j₀ : Fin n} (h₀ : keep j₀ = 1#1) :
    ∃ j, keep j = 1#1 ∧ peak keep (fun i => (s i : EReal)) = (s j : EReal) := by
  obtain ⟨j, -, hj⟩ := Finset.exists_mem_eq_sup' (s := Finset.univ) ⟨j₀, Finset.mem_univ _⟩ fun i => kept (keep i) ((s i : ℝ) : EReal)
  have e : peak keep (fun i => (s i : EReal)) = kept (keep j) ((s j : ℝ) : EReal) := by
    refine Eq.trans ?_ hj
    exact (Finset.sup'_eq_sup ⟨j₀, Finset.mem_univ _⟩ _).symm
  rcases BitVec.eq_zero_or_eq_one (keep j) with h | h
  · exfalso
    rw [h, kept_zero] at e
    have le : kept (keep j₀) ((s j₀ : ℝ) : EReal) ≤ peak keep (fun i => (s i : EReal)) :=
      Finset.le_sup (f := fun i => kept (keep i) ((s i : ℝ) : EReal)) (Finset.mem_univ j₀)
    rw [e, h₀, kept_one] at le
    exact absurd (le_bot_iff.1 le) (EReal.coe_ne_bot _)
  · exact ⟨j, h, by rw [e, h, kept_one]⟩

/-- A key that is not kept has no weight. -/
theorem lift_zero {n : ℕ} (keep : Fin n → BitVec 1) (s : Fin n → EReal) {j : Fin n} (h : keep j = 0#1) : lift keep s j = 0 := by
  rw [lift, h, kept_zero, EReal.bot_sub]; rfl

theorem lift_nonneg {n : ℕ} (keep : Fin n → BitVec 1) (s : Fin n → EReal) (j : Fin n) : 0 ≤ lift keep s j := by
  unfold lift
  generalize kept (keep j) (s j) - peak keep s = x
  induction x with
  | bot => exact le_rfl
  | top => exact le_top
  | coe r => exact EReal.coe_nonneg.2 (Real.exp_pos r).le

/-- A row that keeps a key has a sum of weights other than zero. -/
theorem lift_sum {n : ℕ} (keep : Fin n → BitVec 1) (s : Fin n → ℝ) {j₀ : Fin n} (h₀ : keep j₀ = 1#1) :
    ∑ k, lift keep (fun i => (s i : EReal)) k ≠ 0 := by
  obtain ⟨j, hj, e⟩ := peak_mem keep s h₀
  have h1 : lift keep (fun i => (s i : EReal)) j = 1 := by
    unfold lift
    rw [e, hj, kept_one, ← EReal.coe_sub, sub_self]
    show ((Real.exp 0 : ℝ) : EReal) = 1
    rw [Real.exp_zero]; rfl
  intro h
  have le : lift keep (fun i => (s i : EReal)) j ≤ ∑ k, lift keep (fun i => (s i : EReal)) k :=
    Finset.single_le_sum (f := fun k => lift keep (fun i => (s i : EReal)) k) (fun k _ => lift_nonneg _ _ k) (Finset.mem_univ j)
  rw [h, h1] at le
  exact absurd le (not_le.2 zero_lt_one)

/-- A sum over a row whose terms vanish outside a window is the sum over the window. -/
theorem window_sum {n N : ℕ} (e : Fin n ↪ Fin N) (f : Fin N → EReal) (hf : ∀ j, j ∉ Set.range e → f j = 0) :
    ∑ j, f j = ∑ k, f (e k) := by
  rw [← Finset.sum_map Finset.univ e f]
  refine (Finset.sum_subset (Finset.subset_univ _) fun j _ hj => hf j fun ⟨k, hk⟩ => hj ?_).symm
  exact Finset.mem_map.2 ⟨k, Finset.mem_univ _, hk⟩

/-- The largest kept score of the row is the window's. -/
theorem window_peak {n N : ℕ} (e : Fin n ↪ Fin N) (keep : Fin N → BitVec 1) (s : Fin N → EReal)
    (hk : ∀ j, j ∉ Set.range e → keep j = 0#1) : peak keep s = peak (fun k => keep (e k)) (fun k => s (e k)) := by
  refine le_antisymm (Finset.sup_le (f := fun j => kept (keep j) (s j)) fun j _ => ?_)
    (Finset.sup_le (f := fun k => kept (keep (e k)) (s (e k))) fun k _ =>
      Finset.le_sup (f := fun j => kept (keep j) (s j)) (Finset.mem_univ (e k)))
  by_cases h : j ∈ Set.range e
  · obtain ⟨k, rfl⟩ := h
    exact Finset.le_sup (f := fun k => kept (keep (e k)) (s (e k))) (Finset.mem_univ k)
  · show kept (keep j) (s j) ≤ _
    rw [hk j h, kept_zero]
    exact bot_le

/-- Attention over a window that holds every kept key, of which there is one, is attention over the whole row. -/
theorem attend_window {n N : ℕ} (e : Fin n ↪ Fin N) (keep : Fin N → BitVec 1) (s : Fin N → EReal) (hs : ∀ j, ∃ r : ℝ, s j = r)
    (v : Fin N → EReal) (hk : ∀ j, j ∉ Set.range e → keep j = 0#1) {j₀ : Fin N} (h₀ : keep j₀ = 1#1) :
    attend keep s v = attend (fun k => keep (e k)) (fun k => s (e k)) (fun k => v (e k)) := by
  have hl : ∀ k, lift (fun k => keep (e k)) (fun k => s (e k)) k = lift keep s (e k) := fun k => by
    unfold lift; rw [window_peak e keep s hk]
  have hz : ∑ k, lift keep s k ≠ 0 := by
    choose r hr using hs
    rw [show s = fun i => (r i : EReal) from funext hr]
    exact lift_sum keep r h₀
  have hsum : ∑ k, lift (fun k => keep (e k)) (fun k => s (e k)) k = ∑ k, lift keep s k := by
    rw [window_sum e _ fun j hj => lift_zero keep s (hk j hj)]
    exact Finset.sum_congr rfl fun k _ => hl k
  unfold attend
  rw [hsum, window_sum e _ fun j hj => ?_]
  · exact Finset.sum_congr rfl fun k _ => by rw [hl]
  · rw [lift_zero keep s (hk j hj), Ideal.div, if_neg hz, zero_mul, zero_mul]

end Cert.Attn

end
-- ==== Proof.Near.lean ====
/- The sliding window's mask: which keys a query keeps, read from 32-bit words. -/
module

public import Idealize.ShloMosaic.Lib.Pointwise

@[expose] public section

noncomputable section

namespace Cert.Attn
open Idealize.ShloMosaic

/-- The bit of a query at row `i` for a key at row `j`: they lie at most 128 rows apart. -/
def near (i j : ℕ) : BitVec 1 := BitVec.ofBool (decide (i ≤ j + 128 ∧ j ≤ i + 128))

theorem near_one {i j : ℕ} (h : i ≤ j + 128 ∧ j ≤ i + 128) : near i j = 1#1 := by
  unfold near; rw [decide_eq_true h]; rfl
theorem near_zero {i j : ℕ} (h : ¬(i ≤ j + 128 ∧ j ≤ i + 128)) : near i j = 0#1 := by
  unfold near; rw [decide_eq_false h]; rfl

/-- The absolute difference of two small words, compared with 128, is that bit. -/
theorem near_word {i j : ℕ} (hi : i < 2048) (hj : j < 2048) :
    IntOp.cmpi .sle (IntOp.absi (IntOp.subi (BitVec.ofNat 32 i) (BitVec.ofNat 32 j))) 128#32 = near i j := by
  have ei : (BitVec.ofNat 32 i).toNat = i := by rw [BitVec.toNat_ofNat]; omega
  have ej : (BitVec.ofNat 32 j).toNat = j := by rw [BitVec.toNat_ofNat]; omega
  show BitVec.ofBool ((IntOp.absi (BitVec.ofNat 32 i - BitVec.ofNat 32 j)).sle 128#32) = _
  have key : (IntOp.absi (BitVec.ofNat 32 i - BitVec.ofNat 32 j)).toNat = (i - j) + (j - i) := by
    unfold IntOp.absi
    rcases Nat.lt_or_ge i j with h | h
    · have e : (BitVec.ofNat 32 i - BitVec.ofNat 32 j).toNat = 2 ^ 32 - (j - i) := by rw [BitVec.toNat_sub, ei, ej]; omega
      rw [if_pos (by rw [BitVec.msb_eq_decide, e]; exact decide_eq_true (by omega)), BitVec.toNat_neg, e]; omega
    · have e : (BitVec.ofNat 32 i - BitVec.ofNat 32 j).toNat = i - j := by rw [BitVec.toNat_sub, ei, ej]; omega
      rw [if_neg (by rw [BitVec.msb_eq_decide, e]; simp only [decide_eq_true_eq]; omega), e]; omega
  have hs : (IntOp.absi (BitVec.ofNat 32 i - BitVec.ofNat 32 j)).sle 128#32 = decide ((i - j) + (j - i) ≤ 128) := by
    rw [BitVec.sle_eq_decide, BitVec.toInt_eq_toNat_of_lt (by rw [key]; omega), key, show (128#32 : BitVec 32).toInt = 128 from rfl]
    exact decide_eq_decide.2 ⟨fun h => by omega, fun h => by omega⟩
  rw [hs]
  unfold near
  exact congrArg BitVec.ofBool (decide_eq_decide.2 ⟨fun h => by omega, fun h => by omega⟩)

/-- The same for row numbers. -/
theorem near_fin (i j : Fin 2048) :
    IntOp.cmpi .sle (IntOp.absi (IntOp.subi (BitVec.ofNat 32 i.val) (BitVec.ofNat 32 j.val))) 128#32 = near i.val j.val :=
  near_word i.isLt j.isLt

end Cert.Attn

end
-- ==== Proof.RefValue.lean ====
/- The reference's result at an entry: full-row attention, then a product with the output weights. Its term is read in
   stages, each at an entry. -/
module

public import proofs.«01_k».proof.Proof.Gen.ReferenceIdeal.Run
public import Idealize.ShloMosaic.Lib.Pointwise
public import Idealize.ShloMosaic.Lib.Tactic.CleanTypes
public import Idealize.ShloMosaic.Lib.Routing.OpsOrder
public import proofs.«01_k».proof.Proof.Softmax
public import proofs.«01_k».proof.Proof.Near

@[expose] public section

noncomputable section

namespace Cert.Attn
open Idealize.ShloMosaic Idealize.SL.Sem Cert.ReferenceIdeal Cert.ReferenceIdeal.Gen Cert.ReferenceIdeal.Value
open Idealize.ShloMosaic.TcCoe
open scoped BigOperators

/-- The reference's arrays. -/
abbrev Xs := FVec Ideal S1x2048x1024 .f32
abbrev Qs := FVec Ideal S1024x8192 .f32
abbrev Ks := FVec Ideal S1x2048x64x128 .f32
abbrev Os := FVec Ideal S8192x1024 .f32
/-- One number for each head, query and key. -/
abbrev Ss := FVec Ideal S1x64x2048x2048 .f32

/-- The mask, -/
def bandR : IVec S2048x2048 1 :=
  cmpi .sle (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))

/-- which queries keep any key, -/
def keepR : IVec S2048 1 := Host.reduce IntOp.ori bandR (constantI S_ 1 0#1) reducesTo_S2048x2048_S2048_d1 h_S_

/-- the queries, -/
def queryR (x : Xs) (wq : Qs) : FVec Ideal S1x2048x64x128 .f32 :=
  shapeCast S1x2048x64x128 (Host.dotGeneral (F := Ideal) (φ₁ := .f32) (φ₂ := .f32) dot_S1x2048x1024_S1024x8192_S1x2048x8192_2_0_01_1_n_n none x wq)
    shapeCasts_S1x2048x8192_S1x2048x64x128

/-- the masked scores, -/
def scoreR (q k : Ks) : Ss :=
  select (broadcastInDim S1x64x2048x2048 ![0, 1, 2, 3] bcast_S1x1x2048x2048_S1x64x2048x2048_0_1_2_3 (broadcastInDim S1x1x2048x2048 ![2, 3] bcast_S2048x2048_S1x1x2048x2048_2_3 bandR))
    (mulf (Host.dotGeneral (F := Ideal) (φ₁ := .f32) (φ₂ := .f32) dot_S1x2048x64x128_S1x2048x64x128_S1x64x2048x2048_3_3_1_1_02_02 none q k)
      (broadcastInDim S1x64x2048x2048 ![] bcast_S_S1x64x2048x2048 (constant S_ .f32 0x3DB504F3#32)))
    (broadcastInDim S1x64x2048x2048 ![] bcast_S_S1x64x2048x2048 (id (constant S_ .f32 0xFF800000#32)))

/-- the weights before the division, -/
def liftR (s : Ss) : Ss :=
  Host.exp (subf s (broadcastInDim S1x64x2048x2048 ![0, 1, 2, 3] bcast_S1x64x2048x1_S1x64x2048x2048_0_1_2_3
    (broadcastInDim S1x64x2048x1 ![0, 1, 2] bcast_S1x64x2048_S1x64x2048x1_0_1_2
      (Host.reduce FloatOps.maximumf s (constant S_ .f32 0xFF800000#32) reducesTo_S1x64x2048x2048_S1x64x2048_d3 h_S_))))

/-- their sum along each row, -/
def sumR (e : Ss) : FVec Ideal S1x64x2048 .f32 :=
  Host.reduceAdd e (constant S_ .f32 0x00000000#32) reducesTo_S1x64x2048x2048_S1x64x2048_d3 h_S_

/-- the weights from the queries `kp` that keep a key and the row sums `su`, -/
def quotR (kp : IVec S2048 1) (e : Ss) (su : FVec Ideal S1x64x2048 .f32) : Ss :=
  select (broadcastInDim S1x64x2048x2048 ![0, 1, 2, 3] bcast_S1x1x2048x1_S1x64x2048x2048_0_1_2_3 (broadcastInDim S1x1x2048x1 ![2] bcast_S2048_S1x1x2048x1_2 kp))
    (Host.divf e (broadcastInDim S1x64x2048x2048 ![0, 1, 2, 3] bcast_S1x64x2048x1_S1x64x2048x2048_0_1_2_3
      (select (broadcastInDim S1x64x2048x1 ![0, 1, 2, 3] bcast_S1x1x2048x1_S1x64x2048x1_0_1_2_3 (broadcastInDim S1x1x2048x1 ![2] bcast_S2048_S1x1x2048x1_2 kp))
        (broadcastInDim S1x64x2048x1 ![0, 1, 2] bcast_S1x64x2048_S1x64x2048x1_0_1_2 su)
        (broadcastInDim S1x64x2048x1 ![] bcast_S_S1x64x2048x1 (id (constant S_ .f32 0x3F800000#32))))))
    (broadcastInDim S1x64x2048x2048 ![] bcast_S_S1x64x2048x2048 (id (constant S_ .f32 0x00000000#32)))

/-- the weights, -/
def weightR (e : Ss) : Ss := quotR keepR e (sumR e)

/-- the context, -/
def contextR (w : Ss) (v : Ks) : FVec Ideal S1x2048x8192 .f32 :=
  shapeCast S1x2048x8192 (transpose S1x2048x64x128 [0, 3, 1, 2]
    (Host.dotGeneral (F := Ideal) (φ₁ := .f32) (φ₂ := .f32) dot_S1x2048x64x128_S1x64x2048x2048_S1x64x128x2048_1_3_3_2_02_01 none v w)
    transposes_S1x64x128x2048_S1x2048x64x128_0_3_1_2) shapeCasts_S1x2048x64x128_S1x2048x8192

/-- and the result. -/
def resultR (ctx : FVec Ideal S1x2048x8192 .f32) (wo : Os) : Xs :=
  Host.dotGeneral (F := Ideal) (φ₁ := .f32) (φ₂ := .f32) dot_S1x2048x8192_S8192x1024_S1x2048x1024_2_0_01_1_n_n none ctx wo

/-- The reference's term is these stages one after another. -/
theorem stages (m : (ℓ : Loc nD τ sig) → Buf (Elt Ideal) ℓ) (c : Dev nD) :
    (res_main_v34 m c : Xs)
      = resultR (contextR (weightR (liftR (scoreR (queryR (m ((c.tc : Thread nD τ).loc main_arg0)) (m ((c.tc : Thread nD τ).loc main_arg1)))
          (m ((c.tc : Thread nD τ).loc main_arg2))))) (m ((c.tc : Thread nD τ).loc main_arg3))) (m ((c.tc : Thread nD τ).loc main_arg4)) := rfl

theorem band_entry (i j : Fin 2048) : bandR (ix2 i j) = near i.val j.val := by
  pointwise [bandR]
  exact near_fin i j

/-- Every query keeps a key: its own. -/
theorem keep_entry (i : Fin 2048) : keepR (ix1 i) = 1#1 := by
  pointwise [keepR]
  refine (Routing.fold_ori _ _).2 ⟨i, Finset.mem_univ _, ?_⟩
  rw [band_entry]
  exact near_one (by omega)

theorem query_entry (x : Xs) (wq : Qs) (i : Fin 2048) (h : Fin 64) (d : Fin 128) :
    queryR x wq (ix4 0 i h d) = ∑ l : Fin 1024, x (ix3 0 i l) * wq (ix2 l (⟨h.val * 128 + d.val, by omega⟩ : Fin 8192)) := by
  pointwise [queryR]

theorem score_entry (q k : Ks) (h : Fin 64) (i j : Fin 2048) :
    scoreR q k (ix4 0 h i j)
      = kept (near i.val j.val) ((∑ d : Fin 128, q (ix4 0 i h d) * k (ix4 0 j h d)) * Ideal.ofBits .f32 0x3DB504F3#32) := by
  pointwise [scoreR]
  rw [band_entry]
  show Scalar.select _ _ (Ideal.ofBits .f32 0xFF800000#32) = _
  rw [show Ideal.ofBits .f32 0xFF800000#32 = ⊥ by simp [Ideal.ofBits, Ideal.ieee]]
  rfl

theorem lift_entry (s : Ss) (h : Fin 64) (i j : Fin 2048) :
    liftR s (ix4 0 h i j) = Ideal.exp (s (ix4 0 h i j) - Finset.univ.fold max ⊥ fun k : Fin 2048 => s (ix4 0 h i k)) := by
  pointwise [liftR]
  rw [show Ideal.ofBits .f32 4286578688#32 = ⊥ by simp [Ideal.ofBits, Ideal.ieee]]

theorem sum_entry (e : Ss) (h : Fin 64) (i : Fin 2048) : sumR e (ix3 0 h i) = ∑ k : Fin 2048, e (ix4 0 h i k) := by
  pointwise [sumR]

theorem quot_entry (kp : IVec S2048 1) (e : Ss) (su : FVec Ideal S1x64x2048 .f32) (h : Fin 64) (i j : Fin 2048)
    (hk : kp (ix1 i) = 1#1) : quotR kp e su (ix4 0 h i j) = Ideal.div (e (ix4 0 h i j)) (su (ix3 0 h i)) := by
  pointwise [quotR]
  rw [hk]
  rfl

theorem weight_entry (e : Ss) (h : Fin 64) (i j : Fin 2048) :
    weightR e (ix4 0 h i j) = Ideal.div (e (ix4 0 h i j)) (∑ k : Fin 2048, e (ix4 0 h i k)) := by
  rw [weightR, quot_entry _ _ _ _ _ _ (keep_entry i), sum_entry]

theorem context_entry (w : Ss) (v : Ks) (i : Fin 2048) (n : Fin 8192) :
    contextR w v (ix3 0 i n)
      = ∑ j : Fin 2048, w (ix4 0 (⟨n.val / 128, by omega⟩ : Fin 64) i j) * v (ix4 0 j (⟨n.val / 128, by omega⟩ : Fin 64) (⟨n.val % 128, by omega⟩ : Fin 128)) := by
  pointwise [contextR]
  exact Finset.sum_congr rfl fun j _ => mul_comm _ _

theorem result_entry (ctx : FVec Ideal S1x2048x8192 .f32) (wo : Os) (i : Fin 2048) (e : Fin 1024) :
    resultR ctx wo (ix3 0 i e) = ∑ n : Fin 8192, ctx (ix3 0 i n) * wo (ix2 n e) := by
  pointwise [resultR]

/-- A score: query row `i` against key row `j` in the head of column `n`. -/
def score (x : Xs) (wq : Qs) (k : Ks) (i : Fin 2048) (n : Fin 8192) (j : Fin 2048) : EReal :=
  (∑ d : Fin 128, (∑ l : Fin 1024, x (ix3 0 i l) * wq (ix2 l (⟨n.val / 128 * 128 + d.val, by omega⟩ : Fin 8192)))
    * k (ix4 0 j (⟨n.val / 128, by omega⟩ : Fin 64) d)) * Ideal.ofBits .f32 0x3DB504F3#32

/-- The context of row `i` at column `n`. -/
def context (x : Xs) (wq : Qs) (k v : Ks) (i : Fin 2048) (n : Fin 8192) : EReal :=
  attend (fun j : Fin 2048 => near i.val j.val) (score x wq k i n)
    fun j => v (ix4 0 j (⟨n.val / 128, by omega⟩ : Fin 64) (⟨n.val % 128, by omega⟩ : Fin 128))

/-- The result is the context's product with the output weights. -/
theorem ref_entry (m : (ℓ : Loc nD τ sig) → Buf (Elt Ideal) ℓ) (c : Dev nD) (i : Fin 2048) (e : Fin 1024) :
    (res_main_v34 m c : Xs) (ix3 0 i e)
      = ∑ n : Fin 8192, context (m ((c.tc : Thread nD τ).loc main_arg0)) (m ((c.tc : Thread nD τ).loc main_arg1))
          (m ((c.tc : Thread nD τ).loc main_arg2)) (m ((c.tc : Thread nD τ).loc main_arg3)) i n
          * (m ((c.tc : Thread nD τ).loc main_arg4) : Os) (ix2 n e) := by
  rw [stages, result_entry]
  simp only [context_entry, weight_entry, lift_entry, score_entry, query_entry]
  rfl

end Cert.Attn

end
-- ==== Proof.KernelValue.lean ====
/- The kernel's context at an entry: over the extended reals it is a row of attention over all keys. -/
module

public import proofs.«01_k».proof.Proof.Contents
public import proofs.«01_k».proof.Proof.Softmax
public import proofs.«01_k».proof.Proof.Near
public import Idealize.ShloMosaic.PureOps.IdealRules

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open scoped BigOperators

/-- The score's factor, as both programs write it. -/
def scale : EReal := Ideal.ofBits .f32 0x3DB504F3#32

/-- The word of the mask's constant is minus infinity here. -/
theorem mask_named : (Named.named (F := Ideal) Cert.KernelIdeal.κ "mask" (φ := .f32) 0xCE6E6B28#32 : EReal) = ⊥ :=
  IdealRules.named_const.ideal_named_scalar _ _ _ _ rfl

theorem neg_inf : Ideal.ofBits .f32 0xFF800000#32 = ⊥ := by simp [Ideal.ofBits, Ideal.ieee]

/-- An entry of a tile is a row of attention over the tile's 1024 keys. -/
theorem tile_entry (mk : IVec Cert.KernelIdeal.S512x1024 1) (q : FVec Ideal S512x128 .bf16) (k v : FVec Ideal S1024x128 .f32)
    (r : Fin 512) (d : Fin 128) :
    k0_pay5 (F := Ideal) mk q k v (ix2 r d)
      = attend (fun j : Fin 1024 => mk (ix2 r j)) (fun j => (∑ x : Fin 128, q (ix2 r x) * k (ix2 j x)) * scale) (fun j => v (ix2 j d)) := by
  pointwise [k0_pay5]
  rw [mask_named, neg_inf]
  rfl

/-- The queries are a product with the device's columns of the weights. -/
theorem proj_entry (x : FVec Ideal S2048x1024 .f32) (w : FVec Ideal S1024x1024 .f32) (r : Fin 2048) (d : Fin 1024) :
    k0_pay2 (F := Ideal) x w (ix2 r d) = ∑ k : Fin 1024, x (ix2 r k) * w (ix2 k d) := by
  pointwise [k0_pay2]

/-- The device's share is a product with its rows of the weights. -/
theorem share_entry (x : FVec Ideal S2048x1024 .bf16) (w : FVec Ideal S1024x1024 .f32) (r : Fin 2048) (d : Fin 1024) :
    k0_pay73 (F := Ideal) x w (ix2 r d) = ∑ k : Fin 1024, x (ix2 r k) * w (ix2 k d) := by
  pointwise [k0_pay73]

/-- The column of the same head's coordinate `x`. -/
def col (n : Fin 1024) (x : Fin 128) : Fin 1024 := ⟨n.val / 128 * 128 + x.val, by omega⟩

theorem kwOf_le (b : Fin 4) : kwOf b + 1024 ≤ 2048 := by revert b; decide

/-- A window's keys among all keys. -/
def inWindow (b : Fin 4) : Fin 1024 ↪ Fin 2048 where
  toFun k := ⟨kwOf b + k.val, by have := kwOf_le b; omega⟩
  inj' k k' h := Fin.ext (by have := congrArg Fin.val h; simp only at this; omega)

/-- The window of a query's block holds every key that the query keeps. -/
theorem window_holds (i : Fin 2048) (b : Fin 4) (hb : b.val = i.val / 512) (j : Fin 2048) (hj : j ∉ Set.range (inWindow b)) :
    near i.val j.val = 0#1 := by
  refine near_zero fun ⟨h1, h2⟩ => hj ?_
  have lo : kwOf b ≤ j.val ∧ j.val < kwOf b + 1024 := by
    obtain ⟨b, hb'⟩ := b
    have hi := i.isLt
    have hj' := j.isLt
    simp only at hb
    interval_cases b <;> simp only [kwOf] <;> constructor <;> simp <;> omega
  exact ⟨⟨j.val - kwOf b, by omega⟩, Fin.ext (by show kwOf b + (j.val - kwOf b) = _; omega)⟩

/-- The mask of a block at an entry. -/
theorem maskAt_entry (i : Fin 2048) (b : Fin 4) (r : Fin 512) (hi : i.val = 512 * b.val + r.val) (k : Fin 1024) :
    maskAt b (ix2 r k) = near i.val (inWindow b k).val := by
  pointwise [maskAt, maskOf]
  rw [show IntOp.addi (BitVec.ofNat 32 (r0Of b)) (BitVec.ofNat 32 r.val) = BitVec.ofNat 32 i.val from by
      rw [hi, ← r0Of_eq]; exact (BitVec.ofNat_add _ _).symm,
    show IntOp.addi (BitVec.ofNat 32 (kwOf b)) (BitVec.ofNat 32 k.val) = BitVec.ofNat 32 (inWindow b k).val from
      (BitVec.ofNat_add _ _).symm]
  exact near_word i.isLt (inWindow b k).isLt

/-- An entry of the context is a row of attention over all 2048 keys, where the scores are real. -/
theorem ctx_entry (q : FVec Ideal S2048x1024 .bf16) (kk vv : FVec Ideal S2048x1024 .f32) (i : Fin 2048) (n : Fin 1024)
    (hr : ∀ j : Fin 2048, ∃ r : ℝ, (∑ x : Fin 128, q (ix2 i (col n x)) * kk (ix2 j (col n x))) * scale = r) :
    ctxOf (F := Ideal) q kk vv (ix2 i n)
      = attend (fun j : Fin 2048 => near i.val j.val)
          (fun j => (∑ x : Fin 128, q (ix2 i (col n x)) * kk (ix2 j (col n x))) * scale) (fun j => vv (ix2 j n)) := by
  set b : Fin 4 := blockOf (ix2 i n) with hb
  set h : Fin 8 := headOf (ix2 i n) with hh
  have eb : b.val = i.val / 512 := rfl
  have eh : h.val = n.val / 128 := rfl
  have hi : i.val = 512 * b.val + i.val % 512 := by omega
  rw [attend_window (inWindow b) _ _ hr _ (window_holds i b eb) (j₀ := i) (near_one (by omega))]
  have ej : inTile (ix2 i n) = ix2 (⟨i.val % 512, by omega⟩ : Fin 512) (⟨n.val % 128, by omega⟩ : Fin 128) := by
    funext a; fin_cases a <;> rfl
  have eq' : ∀ x : Fin 128, (qRect b h).idx (ix2 (⟨i.val % 512, by omega⟩ : Fin 512) x) = ix2 i (col n x) := fun x => by
    funext a; fin_cases a
    · refine Fin.ext ((qRect_idx0 b h _).trans ?_)
      exact hi.symm
    · refine Fin.ext ((qRect_idx1 b h _).trans ?_)
      show 128 * h.val + x.val = n.val / 128 * 128 + x.val
      omega
  have ek : ∀ (k : Fin 1024) (x : Fin 128), (kRect b h).idx (ix2 k x) = ix2 (inWindow b k) (col n x) := fun k x => by
    funext a; fin_cases a
    · refine Fin.ext ?_
      show kwOf b + 1 * k.val = kwOf b + k.val
      omega
    · refine Fin.ext ?_
      show hcOf h + 1 * x.val = n.val / 128 * 128 + x.val
      rw [hcOf_eq]; omega
  have en : col n ⟨n.val % 128, by omega⟩ = n := Fin.ext (by show n.val / 128 * 128 + n.val % 128 = n.val; omega)
  show tile b h q kk vv (inTile (ix2 i n)) = _
  rw [ej]
  unfold tile
  rw [tile_entry]
  simp only [eq', ek, en, maskAt_entry i b ⟨i.val % 512, by omega⟩ hi]

end Cert.Attn
end
end
-- ==== Proof.Arguments.lean ====
/- The kernel's inputs at an entry: the arguments without their unit axis, and the device's part of the weights, keys and values. -/
module

public import proofs.«01_k».proof.Proof.Region
public import Idealize.ShloMosaic.Lib.Pointwise
public import Idealize.ShloMosaic.Lib.LayoutAt

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open scoped BigOperators
open Idealize.ShloMosaic.StableHlo

variable (m : (ℓ : Loc nD τ sig) → Buf (Elt Ideal) ℓ) (c : Dev nD)

theorem xIn_eq : xIn m c = shapeCast S2048x1024 (m ((c : Thread nD τ).loc main_arg0) : FVec Ideal S1x2048x1024 .f32) shapeCasts_S1x2048x1024_S2048x1024 := by
  show V m c main_v1 = _
  simp only [V, V0, hostOps0, List.flatten_cons, List.flatten_nil, List.append_nil]
  after_results_simp <;> rfl

theorem kIn_eq : kIn m c = shapeCast S2048x1024 (m ((c : Thread nD τ).loc main_arg2) : FVec Ideal S1x2048x8x128 .f32) shapeCasts_S1x2048x8x128_S2048x1024 := by
  show V m c main_v2 = _
  simp only [V, V0, hostOps0, List.flatten_cons, List.flatten_nil, List.append_nil]
  after_results_simp <;> rfl

theorem vIn_eq : vIn m c = shapeCast S2048x1024 (m ((c : Thread nD τ).loc main_arg3) : FVec Ideal S1x2048x8x128 .f32) shapeCasts_S1x2048x8x128_S2048x1024 := by
  show V m c main_v3 = _
  simp only [V, V0, hostOps0, List.flatten_cons, List.flatten_nil, List.append_nil]
  after_results_simp <;> rfl

/-- Token rows without the unit axis. -/
theorem rows_entry (x : FVec Ideal S1x2048x1024 .f32) (i : Fin 2048) (l : Fin 1024) :
    shapeCast S2048x1024 x shapeCasts_S1x2048x1024_S2048x1024 (ix2 i l) = x (ix3 0 i l) := by
  pointwise []

/-- The result's rows with the unit axis. -/
theorem result_rows (y : FVec Ideal S2048x1024 .f32) (i : Fin 2048) (e : Fin 1024) :
    shapeCast S1x2048x1024 y shapeCasts_S2048x1024_S1x2048x1024 (ix3 0 i e) = y (ix2 i e) := by
  pointwise []

/-- Heads side by side along the columns. -/
theorem heads_entry (x : FVec Ideal S1x2048x8x128 .f32) (j : Fin 2048) (n : Fin 1024) :
    shapeCast S2048x1024 x shapeCasts_S1x2048x8x128_S2048x1024 (ix2 j n)
      = x (ix4 0 j (⟨n.val / 128, by omega⟩ : Fin 8) (⟨n.val % 128, by omega⟩ : Fin 128)) := by
  pointwise []

/-- Column `n` of device `c`'s 1024 among all 8192. -/
def wide (n : Fin 1024) : Fin 8192 := ⟨1024 * c.val + n.val, by have := c.isLt; have : nD = 8 := rfl; omega⟩

theorem off1_eq : ∀ c : Dev nD, k0_off1 c 0 = 0 ∧ k0_off1 c 1 = 1024 * c.val := by decide +kernel
theorem off2_eq : ∀ c : Dev nD, k0_off2 c 0 = 1024 * c.val ∧ k0_off2 c 1 = 0 := by decide +kernel

theorem wqCols_entry (wq : FVec Ideal S1024x8192 .f32) (l n : Fin 1024) : wqCols c wq (ix2 l n) = wq (ix2 l (wide c n)) := by
  unfold wqCols
  congr 1
  funext a
  fin_cases a
  · refine Fin.ext ?_
    show k0_off1 c 0 + 1 * l.val = l.val
    rw [(off1_eq c).1]; omega
  · refine Fin.ext ?_
    show k0_off1 c 1 + 1 * n.val = 1024 * c.val + n.val
    rw [(off1_eq c).2]; omega

theorem woRows_entry (wo : FVec Ideal S8192x1024 .f32) (n e : Fin 1024) : woRows c wo (ix2 n e) = wo (ix2 (wide c n) e) := by
  unfold woRows
  congr 1
  funext a
  fin_cases a
  · refine Fin.ext ?_
    show k0_off2 c 0 + 1 * n.val = 1024 * c.val + n.val
    rw [(off2_eq c).1]; omega
  · refine Fin.ext ?_
    show k0_off2 c 1 + 1 * e.val = e.val
    rw [(off2_eq c).2]; omega

/-- A device's block of the keys or values at an entry: its heads are eight of the 64. -/
theorem block_entry (w : FVec Ideal ⟨4, ![1, 2048, 64, 128]⟩ .f32) (j : Fin 2048) (h : Fin 8) (d : Fin 128) :
    (Layout.block ⟨4, ![1, 2048, 8, 128]⟩ ⟨4, ![1, 2048, 64, 128]⟩ 2 8 c w : FVec Ideal S1x2048x8x128 .f32) (ix4 0 j h d)
      = w (ix4 0 j (⟨c.val * 8 + h.val, by have := c.isLt; have : nD = 8 := rfl; omega⟩ : Fin 64) d) := by
  show w _ = w _
  congr 1
  funext a
  refine Fin.ext ?_
  rw [Layout.Tiles.idx_val]
  fin_cases a <;> rfl

end Cert.Attn
end
end
-- ==== Proof.Devices.lean ====
/- The exchange over the extended reals: every device ends with the sum of what the eight devices brought. -/
module

public import proofs.«01_k».proof.Proof.Schedule
public import Idealize.ShloMosaic.Lib.Pointwise

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open scoped BigOperators

/-- A device with the seven it meets along the three axes: all eight devices. -/
theorem meets_all : ∀ c : Dev nD,
    [c, prt 0 c, prt 1 c, prt 0 (prt 1 c), prt 2 c, prt 0 (prt 2 c), prt 1 (prt 2 c), prt 0 (prt 1 (prt 2 c))].Perm (List.finRange nD) := by
  decide +kernel

variable (P : Dev nD → Arr Ideal)

/-- What the eight devices bring, summed. -/
def sumAll : Arr Ideal := fun i => ∑ d : Dev nD, (P d i : EReal)

/-- After three axes every device holds the sum of all eight parts. -/
theorem A3_sum (c : Dev nD) : A3 P c = sumAll P := by
  funext i
  have h := ((meets_all c).map fun d => (P d i : EReal)).sum_eq
  show _ = ∑ d : Dev nD, (P d i : EReal)
  rw [Fin.sum_univ_def, ← h]
  show ((P c i : EReal) + P (prt 0 c) i) + (P (prt 1 c) i + P (prt 0 (prt 1 c)) i)
    + ((P (prt 2 c) i + P (prt 0 (prt 2 c)) i) + (P (prt 1 (prt 2 c)) i + P (prt 0 (prt 1 (prt 2 c))) i)) = _
  simp only [List.map_cons, List.map_nil, List.sum_cons, List.sum_nil, add_zero, add_assoc]

theorem B3_sum (c : Dev nD) : B3 P c = sumAll P := by
  funext i
  show (if i ∈ S2 c then A3 P (prt 2 c) i else A3 P c i) = _
  rw [A3_sum, A3_sum, ite_self]

theorem B4_sum (c : Dev nD) : B4 P c = sumAll P := by
  funext i
  show (if i ∈ S1 c then B3 P (prt 1 c) i else B3 P c i) = _
  rw [B3_sum, B3_sum, ite_self]

/-- The all-gather leaves the same everywhere. -/
theorem B5_sum (c : Dev nD) : B5 P c = sumAll P := by
  funext i
  show (if i ∈ S0 c then B4 P (prt 0 c) i else B4 P c i) = _
  rw [B4_sum, B4_sum, ite_self]

end Cert.Attn
end
end
-- ==== Proof.Real.lean ====
/- Real numbers among the extended reals: a number whose size is below infinity is real, and so are products and sums of reals. -/
module

public import Idealize.ShloMosaic.Lib.Pointwise

@[expose] public section

noncomputable section

namespace Cert.Attn
open Idealize.ShloMosaic
open scoped BigOperators

/-- An extended real that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {n : ℕ} {f : Fin n → EReal} (h : ∀ k, IsReal (f k)) : IsReal (∑ k, f k) :=
  Finset.sum_induction f IsReal (fun _ _ => IsReal.add) ⟨0, rfl⟩ fun k _ => h k

/-- The comparison that the precondition makes. -/
theorem IsReal.of_below {x : EReal} (h : FloatOps.cmpf (F := Ideal) (φ := .f32) .olt (max x (-x)) (⊤ : EReal) = 1#1) : IsReal x := by
  have lt : max x (-x) < ⊤ := by
    by_contra hn
    have e : FloatOps.cmpf (F := Ideal) (φ := .f32) .olt (max x (-x)) (⊤ : EReal) = BitVec.ofBool (decide (max x (-x) < ⊤)) := rfl
    rw [e, decide_eq_false hn] at h
    exact absurd h (by decide)
  induction x with
  | coe r => exact ⟨r, rfl⟩
  | bot => exact absurd lt (by simp)
  | top => exact absurd lt (by simp)

end Cert.Attn

end
-- ==== Proof.Value.lean ====
/- The eight devices' shares sum to the reference's result. -/
module

public import proofs.«01_k».proof.Proof.RefValue
public import proofs.«01_k».proof.Proof.KernelValue
public import proofs.«01_k».proof.Proof.Arguments
public import proofs.«01_k».proof.Proof.Devices
public import proofs.«01_k».proof.Proof.Real

@[expose] public section

noncomputable section

namespace Cert.Attn
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open scoped BigOperators

/-- The score's factor is a real number. -/
theorem scale_real : IsReal scale := by
  unfold scale IsReal
  simp only [Ideal.ofBits, Ideal.ieee]
  exact ⟨_, rfl⟩

/-- A query's coordinate: a row of tokens against a column of the weights. -/
def query (x : Xs) (wq : Qs) (i : Fin 2048) (n : Fin 8192) : EReal := ∑ l : Fin 1024, x (ix3 0 i l) * wq (ix2 l n)

variable (c : Dev nD)

/-- The coordinate `d` of the head that column `n` lies in, among all columns. -/
theorem wide_col (n : Fin 1024) (d : Fin 128) :
    wide c (col n d) = (⟨(wide c n).val / 128 * 128 + d.val, by omega⟩ : Fin 8192) := by
  refine Fin.ext ?_
  show 1024 * c.val + (n.val / 128 * 128 + d.val) = (1024 * c.val + n.val) / 128 * 128 + d.val
  omega

/-- That a two-axis array holds device `c`'s heads of `w` side by side. -/
def Heads (w : Ks) (a : FVec Ideal S2048x1024 .f32) : Prop := ∀ (j : Fin 2048) (n : Fin 1024),
  a (ix2 j n) = w (ix4 0 j (⟨(wide c n).val / 128, by omega⟩ : Fin 64) (⟨(wide c n).val % 128, by omega⟩ : Fin 128))

theorem Heads.at_col {w : Ks} {a : FVec Ideal S2048x1024 .f32} (h : Heads c w a) (j : Fin 2048) (n : Fin 1024) (d : Fin 128) :
    a (ix2 j (col n d)) = w (ix4 0 j (⟨(wide c n).val / 128, by omega⟩ : Fin 64) d) := by
  rw [h]
  have e := congrArg Fin.val (wide_col c n d)
  simp only at e
  congr 2
  · exact Fin.ext (by show (wide c (col n d)).val / 128 = (wide c n).val / 128; omega)
  · exact Fin.ext (by show (wide c (col n d)).val % 128 = d.val; omega)

/-- A column of the device's context is one of the reference's, where tokens, query weights and keys are real. -/
theorem context_part {x : Xs} {wq : Qs} {k v : Ks} {X K V : FVec Ideal S2048x1024 .f32}
    (hX : ∀ (i : Fin 2048) (l : Fin 1024), X (ix2 i l) = x (ix3 0 i l)) (hK : Heads c k K) (hV : Heads c v V)
    (rx : ∀ i, IsReal (x i)) (rq : ∀ i, IsReal (wq i)) (rk : ∀ i, IsReal (k i)) (i : Fin 2048) (n : Fin 1024) :
    ctxOf (qOf c X wq) K V (ix2 i n) = context x wq k v i (wide c n) := by
  have hq : ∀ d : Fin 128, qOf c X wq (ix2 i (col n d)) = query x wq i (⟨(wide c n).val / 128 * 128 + d.val, by omega⟩ : Fin 8192) := fun d => by
    rw [qOf, proj_entry]
    exact Finset.sum_congr rfl fun l _ => by rw [hX, wqCols_entry, wide_col]
  have hs : ∀ j : Fin 2048, (∑ d : Fin 128, qOf c X wq (ix2 i (col n d)) * K (ix2 j (col n d))) * scale = score x wq k i (wide c n) j :=
    fun j => congrArg (· * scale) (Finset.sum_congr rfl fun d _ => by rw [hq, hK.at_col]; rfl)
  rw [ctx_entry]
  · unfold context
    rw [funext hs, show (fun j => V (ix2 j n)) = _ from funext fun j => hV j n]
  · intro j
    rw [hs]
    exact (IsReal.sum fun d => (IsReal.sum fun l => (rx _).mul (rq _)).mul (rk _)).mul scale_real

/-- The devices' columns one device after another are all columns. -/
theorem sum_wide (f : Fin 8192 → EReal) : ∑ d : Dev nD, ∑ n : Fin 1024, f (wide d n) = ∑ n : Fin 8192, f n := by
  rw [← Fintype.sum_prod_type' fun (d : Dev nD) (n : Fin 1024) => f (wide d n)]
  refine Fintype.sum_equiv (finProdFinEquiv (m := 8) (n := 1024)) _ _ fun p => congrArg f (Fin.ext ?_)
  show 1024 * p.1.val + p.2.val = p.2.val + 1024 * p.1.val
  omega

variable (m : (ℓ : Loc nD τ sig) → Buf (Elt Ideal) ℓ)

/-- How the devices hold the reference's arrays: tokens and weights whole, keys and values by heads; the first three of them real. -/
structure Holds (x : Xs) (wq : Qs) (k v : Ks) (wo : Os) : Prop where
  tokens : ∀ c : Dev nD, m ((c : Thread nD τ).loc main_arg0) = x
  queries : ∀ c : Dev nD, m ((c : Thread nD τ).loc main_arg1) = wq
  keys : ∀ c : Dev nD, m ((c : Thread nD τ).loc main_arg2) = Layout.block ⟨4, ![1, 2048, 8, 128]⟩ ⟨4, ![1, 2048, 64, 128]⟩ 2 8 c k
  values : ∀ c : Dev nD, m ((c : Thread nD τ).loc main_arg3) = Layout.block ⟨4, ![1, 2048, 8, 128]⟩ ⟨4, ![1, 2048, 64, 128]⟩ 2 8 c v
  outs : ∀ c : Dev nD, m ((c : Thread nD τ).loc main_arg4) = wo
  tokens_real : ∀ i, IsReal (x i)
  queries_real : ∀ i, IsReal (wq i)
  keys_real : ∀ i, IsReal (k i)

variable {m} {x : Xs} {wq : Qs} {k v : Ks} {wo : Os}

/-- A device's block, its heads side by side. -/
theorem heads_block (w : Ks) : Heads c w (shapeCast S2048x1024
    (Layout.block ⟨4, ![1, 2048, 8, 128]⟩ ⟨4, ![1, 2048, 64, 128]⟩ 2 8 c w : FVec Ideal S1x2048x8x128 .f32) shapeCasts_S1x2048x8x128_S2048x1024) := fun j n => by
  rw [heads_entry, block_entry]
  congr 2
  · exact Fin.ext (by show c.val * 8 + n.val / 128 = (1024 * c.val + n.val) / 128; omega)
  · exact Fin.ext (by show n.val % 128 = (1024 * c.val + n.val) % 128; omega)

/-- A device's share: its columns of the context against its rows of the output weights. -/
theorem part_entry (h : Holds m x wq k v wo) (i : Fin 2048) (e : Fin 1024) :
    part m c (ix2 i e) = ∑ n : Fin 1024, context x wq k v i (wide c n) * wo (ix2 (wide c n) e) := by
  rw [part, shareOf, share_entry]
  refine Finset.sum_congr rfl fun n _ => ?_
  have hX : ∀ (i : Fin 2048) (l : Fin 1024), xIn m c (ix2 i l) = x (ix3 0 i l) := fun i l => by
    rw [xIn_eq, rows_entry, h.tokens]
  have hK : Heads c k (kIn m c) := by rw [kIn_eq, h.keys]; exact heads_block c k
  have hV : Heads c v (vIn m c) := by rw [vIn_eq, h.values]; exact heads_block c v
  have hq : wqIn m c = wq := (V_main_arg1 m c).trans (h.queries c)
  have ho : woIn m c = wo := (V_main_arg4 m c).trans (h.outs c)
  rw [hq, ho, woRows_entry, context_part c hX hK hV h.tokens_real h.queries_real h.keys_real]

/-- What the exchange makes of the shares: the reference's result. -/
theorem total_entry (h : Holds m x wq k v wo) (i : Fin 2048) (e : Fin 1024) :
    total m c (ix2 i e) = ∑ n : Fin 8192, context x wq k v i n * wo (ix2 n e) := by
  show B5 (part m) c (ix2 i e) = _
  rw [B5_sum, ← sum_wide]
  exact Finset.sum_congr rfl fun d _ => part_entry d h i e

/-- Every device ends with the reference's array. -/
theorem total_eq (h : Holds m x wq k v wo) (r : Xs)
    (hr : ∀ (i : Fin 2048) (e : Fin 1024), r (ix3 0 i e) = ∑ n : Fin 8192, context x wq k v i n * wo (ix2 n e)) :
    shapeCast S1x2048x1024 (total m c) shapeCasts_S2048x1024_S1x2048x1024 = r := by
  funext j
  obtain ⟨i, e, rfl⟩ : ∃ (i : Fin 2048) (e : Fin 1024), j = ix3 0 i e :=
    ⟨j 1, j 2, by funext a; fin_cases a; · exact Fin.ext (by have := (j 0).isLt; show (j 0).val = 0; change (j 0).val < 1 at this; omega)
                  · rfl
                  · rfl⟩
  rw [result_rows, total_entry c h, hr]

end Cert.Attn
end
end
-- ==== Proof.Algebraic.lean ====
/- The value claim: from finite tokens, query weights and keys, every device ends with the reference's result. -/
module

public import proofs.«01_k».proof.Defs
public import proofs.«01_k».proof.Proof.Run
public import proofs.«01_k».proof.Proof.Frames
public import proofs.«01_k».proof.Proof.FrameReference
public import proofs.«01_k».proof.Proof.Value

@[expose] public section

noncomputable section

namespace Cert.Attn
open Idealize.ShloMosaic Idealize.ShloMosaic.TcCoe Idealize.SL.Sem

/-- The shapes that the precondition's comparisons spread a number over. -/
theorem pre_kernel : Cert.Pre_finite_KernelIdeal.Facts where
  bcast_S_S1x2048x1024 := by decide
  bcast_S_S1024x8192 := by decide
  bcast_S_S1x2048x8x128 := by decide

theorem pre_reference : Cert.Pre_finite_ReferenceIdeal.Facts where
  bcast_S_S1x2048x1024 := by decide
  bcast_S_S1024x8192 := by decide
  bcast_S_S1x2048x64x128 := by decide

/-- One comparison of the precondition at an entry. -/
theorem real_of_below {s : Shape} (hb : (⟨0, ![]⟩ : Shape).BroadcastsInDim s (![] : Fin 0 → Fin s.rank)) (x : FVec Ideal s .f32)
    (h : cmpf .olt (Host.absf x) (broadcastInDim s ![] hb (constant (F := Ideal) ⟨0, ![]⟩ .f32 0x7F800000#32)) = fun _ => 1#1) (i : s.Idx) :
    IsReal (x i) := by
  refine IsReal.of_below (Eq.trans ?_ (congrFun h i))
  show _ = FloatOps.cmpf (F := Ideal) (φ := .f32) .olt (max (x i : EReal) (-(x i))) (Ideal.ofBits .f32 0x7F800000#32)
  rw [show Ideal.ofBits .f32 0x7F800000#32 = ⊤ by simp [Ideal.ofBits, Ideal.ieee]]

/-- Every head of the keys is in some device's block. -/
theorem keys_real {k : Ks} (h : ∀ (c : Fin 8) i, IsReal
    ((Layout.block ⟨4, ![1, 2048, 8, 128]⟩ ⟨4, ![1, 2048, 64, 128]⟩ 2 8 c k : FVec Ideal ⟨4, ![1, 2048, 8, 128]⟩ .f32) i)) (i) : IsReal (k i) := by
  have lt : (i 2).val < 64 := (i 2).isLt
  have e : i = ix4 0 (i 1) (⟨(i 2).val / 8 * 8 + (i 2).val % 8, by omega⟩ : Fin 64) (i 3) := by
    funext a
    fin_cases a
    · exact Fin.ext (by have := (i 0).isLt; show (i 0).val = 0; change (i 0).val < 1 at this; omega)
    · rfl
    · exact Fin.ext (by show (i 2).val = (i 2).val / 8 * 8 + (i 2).val % 8; omega)
    · rfl
  have b := block_entry (⟨(i 2).val / 8, by omega⟩ : Fin 8) k (i 1) (⟨(i 2).val % 8, by omega⟩ : Fin 8) (i 3)
  rw [e]
  exact (congrArg IsReal b).mp (h _ _)

/-- The value claim. -/
theorem algebraic : Cert.algebraic_KernelIdeal_ReferenceIdeal_pre_finite_KernelIdeal
    (hKernelIdeal := Cert.KernelIdeal.Gen.facts) (hReferenceIdeal := Cert.ReferenceIdeal.Gen.facts) (hPre_finite_KernelIdeal := pre_kernel) := by
  intro m g m' g' hpre hargs
  have H : Holds m _ _ _ _ _ :=
    { tokens := fun c => (hargs c).1
      queries := fun c => (hargs c).2.1
      keys := fun c => (hargs c).2.2.1
      values := fun c => (hargs c).2.2.2.1
      outs := fun c => (hargs c).2.2.2.2
      tokens_real := (hargs 0).1 ▸ real_of_below _ _ (hpre 0).1
      queries_real := (hargs 0).2.1 ▸ real_of_below _ _ (hpre 0).2.1
      keys_real := keys_real fun c => (hargs c).2.2.1 ▸ real_of_below _ _ (hpre c).2.2 }
  refine ⟨Cert.ReferenceIdeal.Value.res_main_v34 m' 0, ?_, ?_⟩
  · exact (θ_run Cert.KernelIdeal.defs _ _).mono
      (fun _ h c => ⟨(h.1 c).2.trans (total_eq c H _ (ref_entry m' 0)), (h.1 c).1⟩) (run_main m g)
  · exact (θ_run Cert.ReferenceIdeal.defs _ _).mono (fun _ h => h 0) (Cert.ReferenceIdeal.Value.run m' g')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameKernel
public import proofs.«01_k».proof.Proof.Frames
public import proofs.«01_k».proof.Proof.FrameReference
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims: the frames (those under the precondition follow from those without), that the ideal program is the
    kernel with its constant named, and the value claim. -/
theorem claim : Cert.Claim :=
  ⟨Cert.Kernel.Gen.facts, Cert.KernelIdeal.Gen.facts, Cert.ReferenceIdeal.Gen.facts, Cert.Attn.pre_kernel, Cert.Attn.pre_reference,
    Cert.Attn.frame_kernel, Cert.Attn.frame_ideal, fun m g _ => Cert.Attn.frame_ideal m g trivial,
    Cert.Attn.frame_reference, fun m g _ => Cert.Attn.frame_reference m g trivial, Cert.Attn.preserved, Cert.Attn.algebraic⟩

end Cert.Proof

end
